-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 4096, 32, 128]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 4096, 32, 128]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x4096 : Shape := ⟨2, ![1024, 4096]⟩
abbrev S1x4096x8x128 : Shape := ⟨4, ![1, 4096, 8, 128]⟩
abbrev S4096x1024 : Shape := ⟨2, ![4096, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x256x1024 .f32) (main_arg1 : FVec F S1024x4096 .f32) (main_arg2 : FVec F S1x4096x8x128 .f32) (main_arg3 : FVec F S1x4096x8x128 .f32) (main_arg4 : FVec F S4096x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x8x128 .f32 := Host.absf main_arg2
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  main_v13
-- ==== Pre_finite_ReferenceIdeal.lean ====
abbrev S1x256x1024 : Shape := ⟨3, ![1, 256, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x4096 .f32) (main_arg2 : FVec F S1x4096x32x128 .f32) (main_arg3 : FVec F S1x4096x32x128 .f32) (main_arg4 : FVec F S4096x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x4096 : Shape := ⟨2, ![1024, 4096]⟩
abbrev S1x4096x8x128 : Shape := ⟨4, ![1, 4096, 8, 128]⟩
abbrev S4096x1024 : Shape := ⟨2, ![4096, 1024]⟩
abbrev S1024x1024 : Shape := ⟨2, ![1024, 1024]⟩
abbrev S4x1024x8x128 : Shape := ⟨4, ![4, 1024, 8, 128]⟩
abbrev S256x1024 : Shape := ⟨2, ![256, 1024]⟩
abbrev S128x1024 : Shape := ⟨2, ![128, 1024]⟩
abbrev S64x1024 : Shape := ⟨2, ![64, 1024]⟩
abbrev S_ : Shape := ⟨0, ![]⟩
abbrev S4 : Shape := ⟨1, ![4]⟩
abbrev S5 : Shape := ⟨1, ![5]⟩
abbrev S1 : Shape := ⟨1, ![1]⟩
abbrev S1x64x8x128 : Shape := ⟨4, ![1, 64, 8, 128]⟩
abbrev S64x8x128 : Shape := ⟨3, ![64, 8, 128]⟩
abbrev S64x128 : Shape := ⟨2, ![64, 128]⟩
abbrev S1x1024x1x128 : Shape := ⟨4, ![1, 1024, 1, 128]⟩
abbrev S1024x128 : Shape := ⟨2, ![1024, 128]⟩
abbrev S64 : Shape := ⟨1, ![64]⟩
abbrev S64x1 : Shape := ⟨2, ![64, 1]⟩
abbrev S1x128x1024 : Shape := ⟨3, ![1, 128, 1024]⟩
abbrev S1x64x1024 : Shape := ⟨3, ![1, 64, 1024]⟩

abbrev nBuf : Space → Nat
  | .hbm => 6
  | .vmem => 15
  | .smem => 0
  | _ => 0

abbrev bufTy : (tb : Table) → Fin (tcTables nBuf tb) → BufTy
  | .hbm, ⟨0, _⟩ => ⟨S1x256x1024, .f32⟩
  | .hbm, ⟨1, _⟩ => ⟨S1024x4096, .f32⟩
  | .hbm, ⟨2, _⟩ => ⟨S1x4096x8x128, .f32⟩
  | .hbm, ⟨3, _⟩ => ⟨S1x4096x8x128, .f32⟩
  | .hbm, ⟨4, _⟩ => ⟨S4096x1024, .f32⟩
  | .hbm, ⟨5, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S1024x1024, .f32⟩
  | .local _ .vmem, ⟨4, _⟩ => ⟨S4x1024x8x128, .f32⟩
  | .local _ .vmem, ⟨5, _⟩ => ⟨S4x1024x8x128, .f32⟩
  | .local _ .vmem, ⟨6, _⟩ => ⟨S256x1024, .f32⟩
  | .local _ .vmem, ⟨7, _⟩ => ⟨S256x1024, .f32⟩
  | .local _ .vmem, ⟨8, _⟩ => ⟨S128x1024, .bf16⟩
  | .local _ .vmem, ⟨9, _⟩ => ⟨S64x1024, .bf16⟩
  | .local _ .vmem, ⟨10, _⟩ => ⟨S64x1024, .bf16⟩
  | .local _ .vmem, ⟨11, _⟩ => ⟨S128x1024, .bf16⟩
  | .local _ .vmem, ⟨12, _⟩ => ⟨S64x1024, .bf16⟩
  | .local _ .vmem, ⟨13, _⟩ => ⟨S64x1024, .bf16⟩
  | .local _ .vmem, ⟨14, _⟩ => ⟨S128x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.subi c3_i32 v2
  let c1_i32_4 : BitVec 32 := 1#32
  let v8 : BitVec 32 := Scalar.muli v7 c1_i32_4
  let v9 : BitVec 32 := Scalar.addi c0_i32_5 v8
  v9.toNat
def k0_off1 (d0 : Dev nD) : Fin 2 → Nat :=
  let c0_i32_6 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v10 : BitVec 32 := Scalar.muli v2 c1024_i32
  ![0, v10.toNat]
def k0_off2 (d0 : Dev nD) (c0_i32_26 : BitVec 32) : Fin 4 → Nat :=
  let c0_i32_140 : BitVec 32 := 0#32
  let c2_i32_22 : BitVec 32 := 2#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v29 : BitVec 32 := Scalar.subi c1_i32_21 v18
  let v30 : BitVec 32 := Scalar.muli c2_i32_22 v29
  let v36 : BitVec 32 := Scalar.addi v30 c0_i32_26
  let c64_i32_27 : BitVec 32 := 64#32
  let v37 : BitVec 32 := Scalar.muli v36 c64_i32_27
  let c0_i32_146 : BitVec 32 := 0#32
  let c0_i32_147 : BitVec 32 := 0#32
  ![0, v37.toNat, 0, 0]
def k0_off3 (d0 : Dev nD) (c0_i32_44 : BitVec 32) : Fin 4 → Nat :=
  let c0_i32_383 : BitVec 32 := 0#32
  let c2_i32_22 : BitVec 32 := 2#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v29 : BitVec 32 := Scalar.subi c1_i32_21 v18
  let v30 : BitVec 32 := Scalar.muli c2_i32_22 v29
  let c1_i32_24 : BitVec 32 := 1#32
  let v32 : BitVec 32 := Scalar.addi v30 c1_i32_24
  let v68 : BitVec 32 := Scalar.addi v32 c0_i32_44
  let c64_i32_45 : BitVec 32 := 64#32
  let v69 : BitVec 32 := Scalar.muli v68 c64_i32_45
  let c0_i32_389 : BitVec 32 := 0#32
  let c0_i32_390 : BitVec 32 := 0#32
  ![0, v69.toNat, 0, 0]
def k0_off4 (d0 : Dev nD) (c0_i32_76 : BitVec 32) : Fin 4 → Nat :=
  let c0_i32_639 : BitVec 32 := 0#32
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v31 : BitVec 32 := Scalar.muli c2_i32_23 v18
  let c1_i32_25 : BitVec 32 := 1#32
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v33 : BitVec 32 := Scalar.subi c1_i32_25 v20
  let v34 : BitVec 32 := Scalar.addi v31 v33
  let v100 : BitVec 32 := Scalar.addi v34 c0_i32_76
  let c64_i32_77 : BitVec 32 := 64#32
  let v101 : BitVec 32 := Scalar.muli v100 c64_i32_77
  let c0_i32_645 : BitVec 32 := 0#32
  let c0_i32_646 : BitVec 32 := 0#32
  ![0, v101.toNat, 0, 0]
def k0_off5 (d0 : Dev nD) (c0_i32_108 : BitVec 32) : Fin 4 → Nat :=
  let c0_i32_895 : BitVec 32 := 0#32
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v31 : BitVec 32 := Scalar.muli c2_i32_23 v18
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v35 : BitVec 32 := Scalar.addi v31 v20
  let v132 : BitVec 32 := Scalar.addi v35 c0_i32_108
  let c64_i32_109 : BitVec 32 := 64#32
  let v133 : BitVec 32 := Scalar.muli v132 c64_i32_109
  let c0_i32_901 : BitVec 32 := 0#32
  let c0_i32_902 : BitVec 32 := 0#32
  ![0, v133.toNat, 0, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_7 : BitVec 32 := 1024#32
  let v12 : BitVec 32 := Scalar.muli v2 c1024_i32_7
  let c0_i32_1151 : BitVec 32 := 0#32
  ![v12.toNat, 0]
def k0_off7 (d0 : Dev nD) : Fin 2 → Nat :=
  let c2_i32_22 : BitVec 32 := 2#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v29 : BitVec 32 := Scalar.subi c1_i32_21 v18
  let v30 : BitVec 32 := Scalar.muli c2_i32_22 v29
  let c64_i32_1416 : BitVec 32 := 64#32
  let v1135 : BitVec 32 := Scalar.muli v30 c64_i32_1416
  let v1136 : Index := Scalar.indexCast v1135
  let c0_1417 : Index := 0#32
  ![v1136.toNat, 0]
def k0_off8 (d0 : Dev nD) : Fin 2 → Nat :=
  let c2_i32_22 : BitVec 32 := 2#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v29 : BitVec 32 := Scalar.subi c1_i32_21 v18
  let v30 : BitVec 32 := Scalar.muli c2_i32_22 v29
  let c64_i32_1432 : BitVec 32 := 64#32
  let v1158 : BitVec 32 := Scalar.muli v30 c64_i32_1432
  let v1159 : Index := Scalar.indexCast v1158
  let c128 : Index := 128#32
  ![v1159.toNat, 128]
def k0_off9 (d0 : Dev nD) : Fin 2 → Nat :=
  let c2_i32_22 : BitVec 32 := 2#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v29 : BitVec 32 := Scalar.subi c1_i32_21 v18
  let v30 : BitVec 32 := Scalar.muli c2_i32_22 v29
  let c64_i32_1446 : BitVec 32 := 64#32
  let v1181 : BitVec 32 := Scalar.muli v30 c64_i32_1446
  let v1182 : Index := Scalar.indexCast v1181
  let c256 : Index := 256#32
  ![v1182.toNat, 256]
def k0_off10 (d0 : Dev nD) : Fin 2 → Nat :=
  let c2_i32_22 : BitVec 32 := 2#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v29 : BitVec 32 := Scalar.subi c1_i32_21 v18
  let v30 : BitVec 32 := Scalar.muli c2_i32_22 v29
  let c64_i32_1460 : BitVec 32 := 64#32
  let v1204 : BitVec 32 := Scalar.muli v30 c64_i32_1460
  let v1205 : Index := Scalar.indexCast v1204
  let c384 : Index := 384#32
  ![v1205.toNat, 384]
def k0_off11 (d0 : Dev nD) : Fin 2 → Nat :=
  let c2_i32_22 : BitVec 32 := 2#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v29 : BitVec 32 := Scalar.subi c1_i32_21 v18
  let v30 : BitVec 32 := Scalar.muli c2_i32_22 v29
  let c64_i32_1474 : BitVec 32 := 64#32
  let v1227 : BitVec 32 := Scalar.muli v30 c64_i32_1474
  let v1228 : Index := Scalar.indexCast v1227
  let c512 : Index := 512#32
  ![v1228.toNat, 512]
def k0_off12 (d0 : Dev nD) : Fin 2 → Nat :=
  let c2_i32_22 : BitVec 32 := 2#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v29 : BitVec 32 := Scalar.subi c1_i32_21 v18
  let v30 : BitVec 32 := Scalar.muli c2_i32_22 v29
  let c64_i32_1488 : BitVec 32 := 64#32
  let v1250 : BitVec 32 := Scalar.muli v30 c64_i32_1488
  let v1251 : Index := Scalar.indexCast v1250
  let c640 : Index := 640#32
  ![v1251.toNat, 640]
def k0_off13 (d0 : Dev nD) : Fin 2 → Nat :=
  let c2_i32_22 : BitVec 32 := 2#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v29 : BitVec 32 := Scalar.subi c1_i32_21 v18
  let v30 : BitVec 32 := Scalar.muli c2_i32_22 v29
  let c64_i32_1502 : BitVec 32 := 64#32
  let v1273 : BitVec 32 := Scalar.muli v30 c64_i32_1502
  let v1274 : Index := Scalar.indexCast v1273
  let c768 : Index := 768#32
  ![v1274.toNat, 768]
def k0_off14 (d0 : Dev nD) : Fin 2 → Nat :=
  let c2_i32_22 : BitVec 32 := 2#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v29 : BitVec 32 := Scalar.subi c1_i32_21 v18
  let v30 : BitVec 32 := Scalar.muli c2_i32_22 v29
  let c64_i32_1516 : BitVec 32 := 64#32
  let v1296 : BitVec 32 := Scalar.muli v30 c64_i32_1516
  let v1297 : Index := Scalar.indexCast v1296
  let c896 : Index := 896#32
  ![v1297.toNat, 896]
def k0_off15 (d0 : Dev nD) : Fin 2 → Nat :=
  let c2_i32_22 : BitVec 32 := 2#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v29 : BitVec 32 := Scalar.subi c1_i32_21 v18
  let v30 : BitVec 32 := Scalar.muli c2_i32_22 v29
  let c1_i32_24 : BitVec 32 := 1#32
  let v32 : BitVec 32 := Scalar.addi v30 c1_i32_24
  let c64_i32_1786 : BitVec 32 := 64#32
  let v1511 : BitVec 32 := Scalar.muli v32 c64_i32_1786
  let v1512 : Index := Scalar.indexCast v1511
  let c0_1787 : Index := 0#32
  ![v1512.toNat, 0]
def k0_off16 (d0 : Dev nD) : Fin 2 → Nat :=
  let c2_i32_22 : BitVec 32 := 2#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v29 : BitVec 32 := Scalar.subi c1_i32_21 v18
  let v30 : BitVec 32 := Scalar.muli c2_i32_22 v29
  let c1_i32_24 : BitVec 32 := 1#32
  let v32 : BitVec 32 := Scalar.addi v30 c1_i32_24
  let c64_i32_1802 : BitVec 32 := 64#32
  let v1534 : BitVec 32 := Scalar.muli v32 c64_i32_1802
  let v1535 : Index := Scalar.indexCast v1534
  let c128_1803 : Index := 128#32
  ![v1535.toNat, 128]
def k0_off17 (d0 : Dev nD) : Fin 2 → Nat :=
  let c2_i32_22 : BitVec 32 := 2#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v29 : BitVec 32 := Scalar.subi c1_i32_21 v18
  let v30 : BitVec 32 := Scalar.muli c2_i32_22 v29
  let c1_i32_24 : BitVec 32 := 1#32
  let v32 : BitVec 32 := Scalar.addi v30 c1_i32_24
  let c64_i32_1818 : BitVec 32 := 64#32
  let v1557 : BitVec 32 := Scalar.muli v32 c64_i32_1818
  let v1558 : Index := Scalar.indexCast v1557
  let c256_1819 : Index := 256#32
  ![v1558.toNat, 256]
def k0_off18 (d0 : Dev nD) : Fin 2 → Nat :=
  let c2_i32_22 : BitVec 32 := 2#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v29 : BitVec 32 := Scalar.subi c1_i32_21 v18
  let v30 : BitVec 32 := Scalar.muli c2_i32_22 v29
  let c1_i32_24 : BitVec 32 := 1#32
  let v32 : BitVec 32 := Scalar.addi v30 c1_i32_24
  let c64_i32_1834 : BitVec 32 := 64#32
  let v1580 : BitVec 32 := Scalar.muli v32 c64_i32_1834
  let v1581 : Index := Scalar.indexCast v1580
  let c384_1835 : Index := 384#32
  ![v1581.toNat, 384]
def k0_off19 (d0 : Dev nD) : Fin 2 → Nat :=
  let c2_i32_22 : BitVec 32 := 2#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v29 : BitVec 32 := Scalar.subi c1_i32_21 v18
  let v30 : BitVec 32 := Scalar.muli c2_i32_22 v29
  let c1_i32_24 : BitVec 32 := 1#32
  let v32 : BitVec 32 := Scalar.addi v30 c1_i32_24
  let c64_i32_1850 : BitVec 32 := 64#32
  let v1603 : BitVec 32 := Scalar.muli v32 c64_i32_1850
  let v1604 : Index := Scalar.indexCast v1603
  let c512_1851 : Index := 512#32
  ![v1604.toNat, 512]
def k0_off20 (d0 : Dev nD) : Fin 2 → Nat :=
  let c2_i32_22 : BitVec 32 := 2#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v29 : BitVec 32 := Scalar.subi c1_i32_21 v18
  let v30 : BitVec 32 := Scalar.muli c2_i32_22 v29
  let c1_i32_24 : BitVec 32 := 1#32
  let v32 : BitVec 32 := Scalar.addi v30 c1_i32_24
  let c64_i32_1866 : BitVec 32 := 64#32
  let v1626 : BitVec 32 := Scalar.muli v32 c64_i32_1866
  let v1627 : Index := Scalar.indexCast v1626
  let c640_1867 : Index := 640#32
  ![v1627.toNat, 640]
def k0_off21 (d0 : Dev nD) : Fin 2 → Nat :=
  let c2_i32_22 : BitVec 32 := 2#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v29 : BitVec 32 := Scalar.subi c1_i32_21 v18
  let v30 : BitVec 32 := Scalar.muli c2_i32_22 v29
  let c1_i32_24 : BitVec 32 := 1#32
  let v32 : BitVec 32 := Scalar.addi v30 c1_i32_24
  let c64_i32_1882 : BitVec 32 := 64#32
  let v1649 : BitVec 32 := Scalar.muli v32 c64_i32_1882
  let v1650 : Index := Scalar.indexCast v1649
  let c768_1883 : Index := 768#32
  ![v1650.toNat, 768]
def k0_off22 (d0 : Dev nD) : Fin 2 → Nat :=
  let c2_i32_22 : BitVec 32 := 2#32
  let c1_i32_21 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v29 : BitVec 32 := Scalar.subi c1_i32_21 v18
  let v30 : BitVec 32 := Scalar.muli c2_i32_22 v29
  let c1_i32_24 : BitVec 32 := 1#32
  let v32 : BitVec 32 := Scalar.addi v30 c1_i32_24
  let c64_i32_1898 : BitVec 32 := 64#32
  let v1672 : BitVec 32 := Scalar.muli v32 c64_i32_1898
  let v1673 : Index := Scalar.indexCast v1672
  let c896_1899 : Index := 896#32
  ![v1673.toNat, 896]
def k0_off23 (d0 : Dev nD) : Fin 2 → Nat :=
  let c1_i32_17 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v22 : BitVec 32 := Scalar.subi c1_i32_17 v18
  let c128_i32_18 : BitVec 32 := 128#32
  let v23 : BitVec 32 := Scalar.muli v22 c128_i32_18
  let v1696 : Index := Scalar.indexCast v23
  let c0_1915 : Index := 0#32
  ![v1696.toNat, 0]
def k0_off24 (d0 : Dev nD) : Fin 3 → Nat :=
  let c0_1919 : Index := 0#32
  let c1_i32_17 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v22 : BitVec 32 := Scalar.subi c1_i32_17 v18
  let c128_i32_18 : BitVec 32 := 128#32
  let v23 : BitVec 32 := Scalar.muli v22 c128_i32_18
  let v1700 : Index := Scalar.indexCast v23
  let c0_1920 : Index := 0#32
  ![0, v1700.toNat, 0]
def k0_dev3 (d0 : Dev nD) : Nat :=
  let c0_i32_1928 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.xori v2 c1_i32_8
  let c1_i32_1927 : BitVec 32 := 1#32
  let v1711 : BitVec 32 := Scalar.muli v13 c1_i32_1927
  let v1712 : BitVec 32 := Scalar.addi c0_i32_1928 v1711
  v1712.toNat
def k0_off25 (d0 : Dev nD) : Fin 2 → Nat :=
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v31 : BitVec 32 := Scalar.muli c2_i32_23 v18
  let c1_i32_25 : BitVec 32 := 1#32
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v33 : BitVec 32 := Scalar.subi c1_i32_25 v20
  let v34 : BitVec 32 := Scalar.addi v31 v33
  let c64_i32_2185 : BitVec 32 := 64#32
  let v1909 : BitVec 32 := Scalar.muli v34 c64_i32_2185
  let v1910 : Index := Scalar.indexCast v1909
  let c0_2186 : Index := 0#32
  ![v1910.toNat, 0]
def k0_off26 (d0 : Dev nD) : Fin 2 → Nat :=
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v31 : BitVec 32 := Scalar.muli c2_i32_23 v18
  let c1_i32_25 : BitVec 32 := 1#32
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v33 : BitVec 32 := Scalar.subi c1_i32_25 v20
  let v34 : BitVec 32 := Scalar.addi v31 v33
  let c64_i32_2201 : BitVec 32 := 64#32
  let v1932 : BitVec 32 := Scalar.muli v34 c64_i32_2201
  let v1933 : Index := Scalar.indexCast v1932
  let c128_2202 : Index := 128#32
  ![v1933.toNat, 128]
def k0_off27 (d0 : Dev nD) : Fin 2 → Nat :=
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v31 : BitVec 32 := Scalar.muli c2_i32_23 v18
  let c1_i32_25 : BitVec 32 := 1#32
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v33 : BitVec 32 := Scalar.subi c1_i32_25 v20
  let v34 : BitVec 32 := Scalar.addi v31 v33
  let c64_i32_2217 : BitVec 32 := 64#32
  let v1955 : BitVec 32 := Scalar.muli v34 c64_i32_2217
  let v1956 : Index := Scalar.indexCast v1955
  let c256_2218 : Index := 256#32
  ![v1956.toNat, 256]
def k0_off28 (d0 : Dev nD) : Fin 2 → Nat :=
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v31 : BitVec 32 := Scalar.muli c2_i32_23 v18
  let c1_i32_25 : BitVec 32 := 1#32
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v33 : BitVec 32 := Scalar.subi c1_i32_25 v20
  let v34 : BitVec 32 := Scalar.addi v31 v33
  let c64_i32_2233 : BitVec 32 := 64#32
  let v1978 : BitVec 32 := Scalar.muli v34 c64_i32_2233
  let v1979 : Index := Scalar.indexCast v1978
  let c384_2234 : Index := 384#32
  ![v1979.toNat, 384]
def k0_off29 (d0 : Dev nD) : Fin 2 → Nat :=
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v31 : BitVec 32 := Scalar.muli c2_i32_23 v18
  let c1_i32_25 : BitVec 32 := 1#32
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v33 : BitVec 32 := Scalar.subi c1_i32_25 v20
  let v34 : BitVec 32 := Scalar.addi v31 v33
  let c64_i32_2249 : BitVec 32 := 64#32
  let v2001 : BitVec 32 := Scalar.muli v34 c64_i32_2249
  let v2002 : Index := Scalar.indexCast v2001
  let c512_2250 : Index := 512#32
  ![v2002.toNat, 512]
def k0_off30 (d0 : Dev nD) : Fin 2 → Nat :=
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v31 : BitVec 32 := Scalar.muli c2_i32_23 v18
  let c1_i32_25 : BitVec 32 := 1#32
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v33 : BitVec 32 := Scalar.subi c1_i32_25 v20
  let v34 : BitVec 32 := Scalar.addi v31 v33
  let c64_i32_2265 : BitVec 32 := 64#32
  let v2024 : BitVec 32 := Scalar.muli v34 c64_i32_2265
  let v2025 : Index := Scalar.indexCast v2024
  let c640_2266 : Index := 640#32
  ![v2025.toNat, 640]
def k0_off31 (d0 : Dev nD) : Fin 2 → Nat :=
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v31 : BitVec 32 := Scalar.muli c2_i32_23 v18
  let c1_i32_25 : BitVec 32 := 1#32
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v33 : BitVec 32 := Scalar.subi c1_i32_25 v20
  let v34 : BitVec 32 := Scalar.addi v31 v33
  let c64_i32_2281 : BitVec 32 := 64#32
  let v2047 : BitVec 32 := Scalar.muli v34 c64_i32_2281
  let v2048 : Index := Scalar.indexCast v2047
  let c768_2282 : Index := 768#32
  ![v2048.toNat, 768]
def k0_off32 (d0 : Dev nD) : Fin 2 → Nat :=
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v31 : BitVec 32 := Scalar.muli c2_i32_23 v18
  let c1_i32_25 : BitVec 32 := 1#32
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v33 : BitVec 32 := Scalar.subi c1_i32_25 v20
  let v34 : BitVec 32 := Scalar.addi v31 v33
  let c64_i32_2297 : BitVec 32 := 64#32
  let v2070 : BitVec 32 := Scalar.muli v34 c64_i32_2297
  let v2071 : Index := Scalar.indexCast v2070
  let c896_2298 : Index := 896#32
  ![v2071.toNat, 896]
def k0_off33 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let c128_i32 : BitVec 32 := 128#32
  let v21 : BitVec 32 := Scalar.muli v18 c128_i32
  let c1_i32_19 : BitVec 32 := 1#32
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v26 : BitVec 32 := Scalar.subi c1_i32_19 v20
  let c64_i32_20 : BitVec 32 := 64#32
  let v27 : BitVec 32 := Scalar.muli v26 c64_i32_20
  let v28 : BitVec 32 := Scalar.addi v21 v27
  let v2093 : Index := Scalar.indexCast v28
  let c0_2313 : Index := 0#32
  ![v2093.toNat, 0]
def k0_off34 (d0 : Dev nD) : Fin 3 → Nat :=
  let c0_2317 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let c128_i32 : BitVec 32 := 128#32
  let v21 : BitVec 32 := Scalar.muli v18 c128_i32
  let c1_i32_19 : BitVec 32 := 1#32
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v26 : BitVec 32 := Scalar.subi c1_i32_19 v20
  let c64_i32_20 : BitVec 32 := 64#32
  let v27 : BitVec 32 := Scalar.muli v26 c64_i32_20
  let v28 : BitVec 32 := Scalar.addi v21 v27
  let v2097 : Index := Scalar.indexCast v28
  let c0_2318 : Index := 0#32
  ![0, v2097.toNat, 0]
def k0_off35 (d0 : Dev nD) : Fin 2 → Nat :=
  let c1_i32_2328 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v2110 : BitVec 32 := Scalar.subi c1_i32_2328 v20
  let c64_i32_2329 : BitVec 32 := 64#32
  let v2111 : BitVec 32 := Scalar.muli v2110 c64_i32_2329
  let v2112 : Index := Scalar.indexCast v2111
  let c0_2330 : Index := 0#32
  ![v2112.toNat, 0]
def k0_dev4 (d0 : Dev nD) : Nat :=
  let c0_i32_2340 : BitVec 32 := 0#32
  let c3_i32_9 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.subi c3_i32_9 v2
  let c1_i32_2339 : BitVec 32 := 1#32
  let v2127 : BitVec 32 := Scalar.muli v14 c1_i32_2339
  let v2128 : BitVec 32 := Scalar.addi c0_i32_2340 v2127
  v2128.toNat
def k0_off36 (d0 : Dev nD) : Fin 2 → Nat :=
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v31 : BitVec 32 := Scalar.muli c2_i32_23 v18
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v35 : BitVec 32 := Scalar.addi v31 v20
  let c64_i32_2597 : BitVec 32 := 64#32
  let v2325 : BitVec 32 := Scalar.muli v35 c64_i32_2597
  let v2326 : Index := Scalar.indexCast v2325
  let c0_2598 : Index := 0#32
  ![v2326.toNat, 0]
def k0_off37 (d0 : Dev nD) : Fin 2 → Nat :=
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v31 : BitVec 32 := Scalar.muli c2_i32_23 v18
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v35 : BitVec 32 := Scalar.addi v31 v20
  let c64_i32_2613 : BitVec 32 := 64#32
  let v2348 : BitVec 32 := Scalar.muli v35 c64_i32_2613
  let v2349 : Index := Scalar.indexCast v2348
  let c128_2614 : Index := 128#32
  ![v2349.toNat, 128]
def k0_off38 (d0 : Dev nD) : Fin 2 → Nat :=
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v31 : BitVec 32 := Scalar.muli c2_i32_23 v18
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v35 : BitVec 32 := Scalar.addi v31 v20
  let c64_i32_2629 : BitVec 32 := 64#32
  let v2371 : BitVec 32 := Scalar.muli v35 c64_i32_2629
  let v2372 : Index := Scalar.indexCast v2371
  let c256_2630 : Index := 256#32
  ![v2372.toNat, 256]
def k0_off39 (d0 : Dev nD) : Fin 2 → Nat :=
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v31 : BitVec 32 := Scalar.muli c2_i32_23 v18
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v35 : BitVec 32 := Scalar.addi v31 v20
  let c64_i32_2645 : BitVec 32 := 64#32
  let v2394 : BitVec 32 := Scalar.muli v35 c64_i32_2645
  let v2395 : Index := Scalar.indexCast v2394
  let c384_2646 : Index := 384#32
  ![v2395.toNat, 384]
def k0_off40 (d0 : Dev nD) : Fin 2 → Nat :=
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v31 : BitVec 32 := Scalar.muli c2_i32_23 v18
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v35 : BitVec 32 := Scalar.addi v31 v20
  let c64_i32_2661 : BitVec 32 := 64#32
  let v2417 : BitVec 32 := Scalar.muli v35 c64_i32_2661
  let v2418 : Index := Scalar.indexCast v2417
  let c512_2662 : Index := 512#32
  ![v2418.toNat, 512]
def k0_off41 (d0 : Dev nD) : Fin 2 → Nat :=
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v31 : BitVec 32 := Scalar.muli c2_i32_23 v18
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v35 : BitVec 32 := Scalar.addi v31 v20
  let c64_i32_2677 : BitVec 32 := 64#32
  let v2440 : BitVec 32 := Scalar.muli v35 c64_i32_2677
  let v2441 : Index := Scalar.indexCast v2440
  let c640_2678 : Index := 640#32
  ![v2441.toNat, 640]
def k0_off42 (d0 : Dev nD) : Fin 2 → Nat :=
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v31 : BitVec 32 := Scalar.muli c2_i32_23 v18
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v35 : BitVec 32 := Scalar.addi v31 v20
  let c64_i32_2693 : BitVec 32 := 64#32
  let v2463 : BitVec 32 := Scalar.muli v35 c64_i32_2693
  let v2464 : Index := Scalar.indexCast v2463
  let c768_2694 : Index := 768#32
  ![v2464.toNat, 768]
def k0_off43 (d0 : Dev nD) : Fin 2 → Nat :=
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let v31 : BitVec 32 := Scalar.muli c2_i32_23 v18
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v35 : BitVec 32 := Scalar.addi v31 v20
  let c64_i32_2709 : BitVec 32 := 64#32
  let v2486 : BitVec 32 := Scalar.muli v35 c64_i32_2709
  let v2487 : Index := Scalar.indexCast v2486
  let c896_2710 : Index := 896#32
  ![v2487.toNat, 896]
def k0_off44 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let c128_i32 : BitVec 32 := 128#32
  let v21 : BitVec 32 := Scalar.muli v18 c128_i32
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let c64_i32 : BitVec 32 := 64#32
  let v24 : BitVec 32 := Scalar.muli v20 c64_i32
  let v25 : BitVec 32 := Scalar.addi v21 v24
  let v2509 : Index := Scalar.indexCast v25
  let c0_2725 : Index := 0#32
  ![v2509.toNat, 0]
def k0_off45 (d0 : Dev nD) : Fin 3 → Nat :=
  let c0_2729 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v15 : BitVec 1 := Scalar.cmpi .eq v2 c0_i32_10
  let c3_i32_11 : BitVec 32 := 3#32
  let v16 : BitVec 1 := Scalar.cmpi .eq v2 c3_i32_11
  let v17 : BitVec 1 := Scalar.ori v15 v16
  let c0_i32_12 : BitVec 32 := 0#32
  let c1_i32_13 : BitVec 32 := 1#32
  let v18 : BitVec 32 := Scalar.select v17 c0_i32_12 c1_i32_13
  let c128_i32 : BitVec 32 := 128#32
  let v21 : BitVec 32 := Scalar.muli v18 c128_i32
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let c64_i32 : BitVec 32 := 64#32
  let v24 : BitVec 32 := Scalar.muli v20 c64_i32
  let v25 : BitVec 32 := Scalar.addi v21 v24
  let v2513 : Index := Scalar.indexCast v25
  let c0_2730 : Index := 0#32
  ![0, v2513.toNat, 0]
def k0_off46 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let c64_i32_2733 : BitVec 32 := 64#32
  let v2520 : BitVec 32 := Scalar.muli v20 c64_i32_2733
  let v2521 : Index := Scalar.indexCast v2520
  let c0_2734 : Index := 0#32
  ![v2521.toNat, 0]
def k0_dev5 (d0 : Dev nD) : Nat :=
  let c0_i32_2757 : BitVec 32 := 0#32
  let c3_i32_9 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.subi c3_i32_9 v2
  let c1_i32_2756 : BitVec 32 := 1#32
  let v2552 : BitVec 32 := Scalar.muli v14 c1_i32_2756
  let v2553 : BitVec 32 := Scalar.addi c0_i32_2757 v2552
  v2553.toNat
def k0_off47 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let c64_i32_2758 : BitVec 32 := 64#32
  let v2558 : BitVec 32 := Scalar.muli v20 c64_i32_2758
  let c0_i32_2763 : BitVec 32 := 0#32
  ![v2558.toNat, 0]
def k0_dev6 (d0 : Dev nD) : Nat :=
  let c0_i32_2762 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.xori v2 c1_i32_8
  let c1_i32_2761 : BitVec 32 := 1#32
  let v2559 : BitVec 32 := Scalar.muli v13 c1_i32_2761
  let v2560 : BitVec 32 := Scalar.addi c0_i32_2762 v2559
  v2560.toNat
def k0_off48 (d0 : Dev nD) : Fin 2 → Nat :=
  let c1_i32_2775 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_14 : BitVec 32 := 2#32
  let v19 : BitVec 1 := Scalar.cmpi .slt v2 c2_i32_14
  let c0_i32_15 : BitVec 32 := 0#32
  let c1_i32_16 : BitVec 32 := 1#32
  let v20 : BitVec 32 := Scalar.select v19 c0_i32_15 c1_i32_16
  let v2578 : BitVec 32 := Scalar.subi c1_i32_2775 v20
  let c64_i32_2776 : BitVec 32 := 64#32
  let v2579 : BitVec 32 := Scalar.muli v2578 c64_i32_2776
  let c0_i32_2781 : BitVec 32 := 0#32
  ![v2579.toNat, 0]
def k0_dev7 (d0 : Dev nD) : Nat :=
  let c0_i32_2780 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v13 : BitVec 32 := Scalar.xori v2 c1_i32_8
  let c1_i32_2779 : BitVec 32 := 1#32
  let v2580 : BitVec 32 := Scalar.muli v13 c1_i32_2779
  let v2581 : BitVec 32 := Scalar.addi c0_i32_2780 v2580
  v2581.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x256x1024 : Shape := ⟨3, ![1, 256, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x256x4096 : Shape := ⟨3, ![1, 256, 4096]⟩
abbrev S1x256x32x128 : Shape := ⟨4, ![1, 256, 32, 128]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S1x32x256x4096 : Shape := ⟨4, ![1, 32, 256, 4096]⟩
abbrev S1x1x256x4096 : Shape := ⟨4, ![1, 1, 256, 4096]⟩
abbrev S1x32x256 : Shape := ⟨3, ![1, 32, 256]⟩
abbrev S1x32x256x1 : Shape := ⟨4, ![1, 32, 256, 1]⟩
abbrev S1x1x256x1 : Shape := ⟨4, ![1, 1, 256, 1]⟩
abbrev S1x32x128x256 : Shape := ⟨4, ![1, 32, 128, 256]⟩

abbrev nBuf : Space → Nat
  | .hbm => 137
  | .vmem => 0
  | .smem => 0
  | _ => 0

abbrev hbmTy0_0 (i : Nat) : BufTy := match i % 128 with
  | 0 => ⟨S1x256x1024, .f32⟩
  | 1 => ⟨S1024x4096, .f32⟩
  | 2 => ⟨S1x4096x32x128, .f32⟩
  | 3 => ⟨S1x4096x32x128, .f32⟩
  | 4 => ⟨S4096x1024, .f32⟩
  | 5 => ⟨S1x256x4096, .f32⟩
  | 6 => ⟨S1x256x32x128, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S4096, .i32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S1x4096, .i32⟩
  | 47 => ⟨S256x4096, .i32⟩
  | 48 => ⟨S256x4096, .i32⟩
  | 49 => ⟨S256x4096, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x4096, .i32⟩
  | 57 => ⟨S1x4096, .i32⟩
  | 58 => ⟨S_, .i32⟩
  | 59 => ⟨S1x4096, .i32⟩
  | 60 => ⟨S1x4096, .i1⟩
  | 61 => ⟨S_, .i32⟩
  | 62 => ⟨S1x4096, .i32⟩
  | 63 => ⟨S1x4096, .i1⟩
  | 64 => ⟨S_, .i32⟩
  | 65 => ⟨S_, .i1⟩
  | 66 => ⟨S1x4096, .i1⟩
  | 67 => ⟨S1x4096, .i1⟩
  | 68 => ⟨S1x4096, .i1⟩
  | 69 => ⟨S1x4096, .i32⟩
  | 70 => ⟨S1x4096, .i32⟩
  | 71 => ⟨S1x4096, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x4096, .i32⟩
  | 95 => ⟨S256x4096, .i32⟩
  | 96 => ⟨S256x4096, .i1⟩
  | 97 => ⟨S256x4096, .i1⟩
  | 98 => ⟨S1x32x256x4096, .f32⟩
  | 99 => ⟨S_, .f32⟩
  | 100 => ⟨S1x32x256x4096, .f32⟩
  | 101 => ⟨S1x32x256x4096, .f32⟩
  | 102 => ⟨S1x1x256x4096, .i1⟩
  | 103 => ⟨S_, .f32⟩
  | 104 => ⟨S_, .f32⟩
  | 105 => ⟨S1x32x256x4096, .i1⟩
  | 106 => ⟨S1x32x256x4096, .f32⟩
  | 107 => ⟨S1x32x256x4096, .f32⟩
  | 108 => ⟨S_, .f32⟩
  | 109 => ⟨S1x32x256, .f32⟩
  | 110 => ⟨S1x32x256x1, .f32⟩
  | 111 => ⟨S1x32x256x4096, .f32⟩
  | 112 => ⟨S1x32x256x4096, .f32⟩
  | 113 => ⟨S1x32x256x4096, .f32⟩
  | 114 => ⟨S_, .i1⟩
  | 115 => ⟨S256, .i1⟩
  | 116 => ⟨S1x1x256x1, .i1⟩
  | 117 => ⟨S_, .f32⟩
  | 118 => ⟨S1x32x256, .f32⟩
  | 119 => ⟨S1x32x256x1, .f32⟩
  | 120 => ⟨S_, .f32⟩
  | 121 => ⟨S_, .f32⟩
  | 122 => ⟨S1x32x256x1, .i1⟩
  | 123 => ⟨S1x32x256x1, .f32⟩
  | 124 => ⟨S1x32x256x1, .f32⟩
  | 125 => ⟨S1x32x256x4096, .f32⟩
  | 126 => ⟨S1x32x256x4096, .f32⟩
  | 127 => ⟨S1x1x256x1, .i1⟩
  | _ => ⟨S1x256x1024, .f32⟩

abbrev hbmTy0_1 (i : Nat) : BufTy := match i % 128 with
  | 0 => ⟨S_, .f32⟩
  | 1 => ⟨S_, .f32⟩
  | 2 => ⟨S1x32x256x4096, .i1⟩
  | 3 => ⟨S1x32x256x4096, .f32⟩
  | 4 => ⟨S1x32x256x4096, .f32⟩
  | 5 => ⟨S1x32x128x256, .f32⟩
  | 6 => ⟨S1x256x32x128, .f32⟩
  | 7 => ⟨S1x256x4096, .f32⟩
  | 8 => ⟨S1x256x1024, .f32⟩
  | _ => ⟨S1x256x1024, .f32⟩

abbrev hbmTy (i : Nat) : BufTy := match i / 128 with
  | 0 => hbmTy0_0 i
  | 1 => hbmTy0_1 i
  | _ => ⟨S1x256x1024, .f32⟩

abbrev bufTy : (tb : Table) → Fin (tcTables nBuf tb) → BufTy
  | .hbm, ⟨i, _⟩ => hbmTy i
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.KernelIdeal.Plan.lean ====
/- The kernel's body, written as a structured program: the sixteen tiles of a slot and the eight heads of
   a slot are runs over a list, where the printed body writes every copy, wait and head out. The theorem
   `body_eq_plan` says that the printed body IS this program. -/
module

public import proofs.«01_k».proof.Proof.Gen.KernelIdeal.Frame
public import proofs.«01_k».proof.Proof.Gen.KernelIdeal.Skeleton

@[expose] public section

set_option maxRecDepth 16384

noncomputable section

namespace Cert.KernelIdealProof

open Idealize.ShloMosaic Idealize.ShloMosaic.TcCoe Idealize.SL.Sem
open Cert.KernelIdeal Cert.KernelIdeal.Gen

variable {F : FTy → Type} [FloatOps F]

/-- Programs of the core. -/
local notation "ℙ" => Prog (TpuEff nD τ sig (Elt F) Λ₀ Proc.tc)

/-! ## The buffers and semaphores -/

/-- The activations, staged. -/
abbrev xM : Memref sig .tc .vmem S1x256x1024 .f32 := Memref.whole cc0_stg0_0
/-- The result, staged. -/
abbrev oM : Memref sig .tc .vmem S1x256x1024 .f32 := Memref.whole cc0_stg1_0
/-- The query weights, in HBM. -/
abbrev wqH : Memref sig .tc .hbm S1024x4096 .f32 := Memref.whole main_arg1
/-- The keys, in HBM. -/
abbrev kH : Memref sig .tc .hbm S1x4096x8x128 .f32 := Memref.whole main_arg2
/-- The values, in HBM. -/
abbrev vH : Memref sig .tc .hbm S1x4096x8x128 .f32 := Memref.whole main_arg3
/-- The output weights, in HBM. -/
abbrev woH : Memref sig .tc .hbm S4096x1024 .f32 := Memref.whole main_arg4
/-- This device's columns of the query weights. -/
abbrev wqM : Memref sig .tc .vmem S1024x1024 .f32 := Memref.whole cc0_scratch0
/-- This device's rows of the output weights. -/
abbrev woM : Memref sig .tc .vmem S1024x1024 .f32 := Memref.whole cc0_scratch1
/-- The gathered keys, by slot. -/
abbrev kM : Memref sig .tc .vmem S4x1024x8x128 .f32 := Memref.whole cc0_scratch2
/-- The gathered values, by slot. -/
abbrev vM : Memref sig .tc .vmem S4x1024x8x128 .f32 := Memref.whole cc0_scratch3
/-- The scaled queries. -/
abbrev qM : Memref sig .tc .vmem S256x1024 .f32 := Memref.whole cc0_scratch4
/-- The context. -/
abbrev cM : Memref sig .tc .vmem S256x1024 .f32 := Memref.whole cc0_scratch5
/-- Send buffer of round 1. -/
abbrev s1M : Memref sig .tc .vmem S128x1024 .bf16 := Memref.whole cc0_scratch6
/-- Send buffer of round 2. -/
abbrev s2M : Memref sig .tc .vmem S64x1024 .bf16 := Memref.whole cc0_scratch7
/-- Send buffer of rounds 3 and 4a. -/
abbrev s3M : Memref sig .tc .vmem S64x1024 .bf16 := Memref.whole cc0_scratch8
/-- Receive buffer of round 1. -/
abbrev r1M : Memref sig .tc .vmem S128x1024 .bf16 := Memref.whole cc0_scratch9
/-- Receive buffer of round 2. -/
abbrev r2M : Memref sig .tc .vmem S64x1024 .bf16 := Memref.whole cc0_scratch10
/-- Receive buffer of round 3. -/
abbrev r3M : Memref sig .tc .vmem S64x1024 .bf16 := Memref.whole cc0_scratch11
/-- Receive buffer of round 4. -/
abbrev r4M : Memref sig .tc .vmem S128x1024 .bf16 := Memref.whole cc0_scratch12

/-- The barrier semaphore. -/
abbrev semB : Sem sig := (SemArray.scalar (sig.barrier 0 rfl) : Sems sig S_).sem
/-- The semaphore of the query weights' copy. -/
abbrev semW : DmaSem sig := cc0_scratch13.sem
/-- The semaphore of the output weights' copy. -/
abbrev semO : DmaSem sig := cc0_scratch14.sem
/-- Slot windows of the four gather semaphores lie within their array. -/
theorem sem4_inb (s : Fin 4) : ∀ a : Fin 1, (![s.val] : Fin 1 → Nat) a + S1.size a ≤ S4.size a := by
  revert s; decide
/-- Windows of the five round semaphores lie within their array. -/
theorem sem5_inb (r : Fin 5) : ∀ a : Fin 1, (![r.val] : Fin 1 → Nat) a + S1.size a ≤ S5.size a := by
  revert r; decide
/-- The gather semaphore of slot `s`. -/
abbrev semKV (s : Fin 4) : DmaSem sig :=
  ((cc0_scratch15.slice (Rect.unit (s := S4) ![s.val] S1.size (sem4_inb s))).squeeze S_ squeezes_S1_S_).sem
/-- The send semaphore of remote copy `r`. -/
abbrev semS (r : Fin 5) : DmaSem sig :=
  ((cc0_scratch16.slice (Rect.unit (s := S5) ![r.val] S1.size (sem5_inb r))).squeeze S_ squeezes_S1_S_).sem
/-- The receive semaphore of remote copy `r`. -/
abbrev semR (r : Fin 5) : DmaSem sig :=
  ((cc0_scratch17.slice (Rect.unit (s := S5) ![r.val] S1.size (sem5_inb r))).squeeze S_ squeezes_S1_S_).sem

/-! ## The gather -/

/-- Where the tile `t` of slot `s` begins in the keys and in the values. -/
def kvOff (d : Dev nD) (s : Fin 4) (t : Fin 16) : Fin 4 → Nat :=
  match s with
  | 0 => k0_off2 d (BitVec.ofNat 32 (4 * t.val))
  | 1 => k0_off3 d (BitVec.ofNat 32 (4 * t.val))
  | 2 => k0_off4 d (BitVec.ofNat 32 (4 * t.val))
  | 3 => k0_off5 d (BitVec.ofNat 32 (4 * t.val))

/-- The tiles lie within the keys and values. -/
theorem kvOff_inb (d : Dev nD) (s : Fin 4) (t : Fin 16) : ∀ a, kvOff d s t a + S1x64x8x128.size a ≤ S1x4096x8x128.size a :=
  match s with
  | 0 => k0_off2_inb d t
  | 1 => k0_off3_inb d t
  | 2 => k0_off4_inb d t
  | 3 => k0_off5_inb d t

/-- The tiles lie within the gathered buffers. -/
theorem gOff_inb (s : Fin 4) (t : Fin 16) :
    ∀ a : Fin 4, (![s.val, 64 * t.val, 0, 0] : Fin 4 → Nat) a + S1x64x8x128.size a ≤ S4x1024x8x128.size a := by
  revert s t; decide

/-- The head windows lie within the gathered buffers. -/
theorem hOff_inb (s : Fin 4) (h : Fin 8) :
    ∀ a : Fin 4, (![s.val, 0, h.val, 0] : Fin 4 → Nat) a + S1x1024x1x128.size a ≤ S4x1024x8x128.size a := by
  revert s h; decide

/-- The offset in the queries and in the context at which slot `s`, head `h` reads and writes. -/
def qOff (d : Dev nD) (s : Fin 4) (h : Fin 8) : Fin 2 → Nat :=
  match s, h with
  | 0, 0 => k0_off7 d | 0, 1 => k0_off8 d | 0, 2 => k0_off9 d | 0, 3 => k0_off10 d | 0, 4 => k0_off11 d | 0, 5 => k0_off12 d | 0, 6 => k0_off13 d | 0, 7 => k0_off14 d
  | 1, 0 => k0_off15 d | 1, 1 => k0_off16 d | 1, 2 => k0_off17 d | 1, 3 => k0_off18 d | 1, 4 => k0_off19 d | 1, 5 => k0_off20 d | 1, 6 => k0_off21 d | 1, 7 => k0_off22 d
  | 2, 0 => k0_off25 d | 2, 1 => k0_off26 d | 2, 2 => k0_off27 d | 2, 3 => k0_off28 d | 2, 4 => k0_off29 d | 2, 5 => k0_off30 d | 2, 6 => k0_off31 d | 2, 7 => k0_off32 d
  | 3, 0 => k0_off36 d | 3, 1 => k0_off37 d | 3, 2 => k0_off38 d | 3, 3 => k0_off39 d | 3, 4 => k0_off40 d | 3, 5 => k0_off41 d | 3, 6 => k0_off42 d | 3, 7 => k0_off43 d

/-- The query and context windows lie within their buffers. -/
theorem qOff_inb (d : Dev nD) (s : Fin 4) (h : Fin 8) : ∀ a, qOff d s h a + S64x128.size a ≤ S256x1024.size a :=
  match s, h with
  | 0, 0 => k0_off7_inb d | 0, 1 => k0_off8_inb d | 0, 2 => k0_off9_inb d | 0, 3 => k0_off10_inb d | 0, 4 => k0_off11_inb d | 0, 5 => k0_off12_inb d | 0, 6 => k0_off13_inb d | 0, 7 => k0_off14_inb d
  | 1, 0 => k0_off15_inb d | 1, 1 => k0_off16_inb d | 1, 2 => k0_off17_inb d | 1, 3 => k0_off18_inb d | 1, 4 => k0_off19_inb d | 1, 5 => k0_off20_inb d | 1, 6 => k0_off21_inb d | 1, 7 => k0_off22_inb d
  | 2, 0 => k0_off25_inb d | 2, 1 => k0_off26_inb d | 2, 2 => k0_off27_inb d | 2, 3 => k0_off28_inb d | 2, 4 => k0_off29_inb d | 2, 5 => k0_off30_inb d | 2, 6 => k0_off31_inb d | 2, 7 => k0_off32_inb d
  | 3, 0 => k0_off36_inb d | 3, 1 => k0_off37_inb d | 3, 2 => k0_off38_inb d | 3, 3 => k0_off39_inb d | 3, 4 => k0_off40_inb d | 3, 5 => k0_off41_inb d | 3, 6 => k0_off42_inb d | 3, 7 => k0_off43_inb d

/-- The tile `t` of slot `s` of an HBM array `m`. -/
abbrev srcT (m : Memref sig .tc .hbm S1x4096x8x128 .f32) (d : Dev nD) (s : Fin 4) (t : Fin 16) : Memref sig .tc .hbm S64x8x128 .f32 :=
  (m.slice (Rect.unit (s := S1x4096x8x128) (kvOff d s t) S1x64x8x128.size (kvOff_inb d s t)) (fun _ => rfl)).squeeze S64x8x128 squeezes_S1x64x8x128_S64x8x128

/-- The tile `t` of slot `s` of a gathered buffer `m`. -/
abbrev dstT (m : Memref sig .tc .vmem S4x1024x8x128 .f32) (s : Fin 4) (t : Fin 16) : Memref sig .tc .vmem S64x8x128 .f32 :=
  (m.slice (Rect.unit (s := S4x1024x8x128) ![s.val, 64 * t.val, 0, 0] S1x64x8x128.size (gOff_inb s t)) (fun _ => rfl)).squeeze S64x8x128 squeezes_S1x64x8x128_S64x8x128

/-- Start the copy of one tile. -/
def startT (m : Memref sig .tc .hbm S1x4096x8x128 .f32) (g : Memref sig .tc .vmem S4x1024x8x128 .f32) (d : Dev nD) (s : Fin 4) (t : Fin 16) : ℙ PUnit :=
  Prog.lift (.enqueueDma (srcT m d s t) (.here (dstT g s t)) (.dma (semKV s)) ((View.wordExact_bits rfl).reshape _ _) ((View.wordExact_bits rfl).reshape _ _) ⟨Or.inl rfl, trivial⟩)

/-- Wait for the copy of one tile. -/
def waitT (m : Memref sig .tc .hbm S1x4096x8x128 .f32) (g : Memref sig .tc .vmem S4x1024x8x128 .f32) (d : Dev nD) (s : Fin 4) (t : Fin 16) : ℙ PUnit :=
  Prog.lift (.waitDma2 (semKV s) (srcT m d s t) (dstT g s t) ((View.wordExact_bits rfl).reshape _ _) ((View.wordExact_bits rfl).reshape _ _))

/-- A program for each entry of a list, in order. -/
def each {A : Type} (l : List A) (f : A → ℙ PUnit) : ℙ PUnit :=
  match l with
  | [] => pure ⟨⟩
  | a :: l => f a >>= fun _ => each l f

/-- The tiles of a slot. -/
def tiles : List (Fin 16) := [0, 1, 2, 3, 4, 5, 6, 7, 8, 9, 10, 11, 12, 13, 14, 15]
/-- The heads of a device. -/
def heads : List (Fin 8) := [0, 1, 2, 3, 4, 5, 6, 7]

/-- Start the copies of slot `s`. -/
def startSlot (d : Dev nD) (s : Fin 4) : ℙ PUnit :=
  each tiles fun t => startT kH kM d s t >>= fun _ => startT vH vM d s t

/-- Wait for the copies of slot `s`. -/
def waitSlot (d : Dev nD) (s : Fin 4) : ℙ PUnit :=
  each tiles fun t => waitT kH kM d s t >>= fun _ => waitT vH vM d s t

/-- The attention of slot `s`, head `h`. -/
def head (d : Dev nD) (s : Fin 4) (h : Fin 8) : ℙ PUnit := do
  let q : Vec F S64x128 .f32 ← Prog.lift (.load qM (Rect.unit (s := S256x1024) (qOff d s h) S64x128.size (qOff_inb d s h)).toLoadRect (View.loadsAt_vmem h_S64x128))
  let k : Vec F S1x1024x1x128 .f32 ← Prog.lift (.load kM (Rect.unit (s := S4x1024x8x128) ![s.val, 0, h.val, 0] S1x1024x1x128.size (hOff_inb s h)).toLoadRect (View.loadsAt_vmem h_S1x1024x1x128))
  let v : Vec F S1x1024x1x128 .f32 ← Prog.lift (.load vM (Rect.unit (s := S4x1024x8x128) ![s.val, 0, h.val, 0] S1x1024x1x128.size (hOff_inb s h)).toLoadRect (View.loadsAt_vmem h_S1x1024x1x128))
  let _ : Vec F S64x128 .f32 ← Prog.lift (.load cM (Rect.unit (s := S256x1024) (qOff d s h) S64x128.size (qOff_inb d s h)).toLoadRect (View.loadsAt_vmem h_S64x128))
  Prog.lift (.store cM (Rect.unit (s := S256x1024) (qOff d s h) S64x128.size (qOff_inb d s h)) (k0_pay3 q k v) Finset.univ (View.stores_vmem_bits_univ h_S64x128 rfl) (.inl rfl))

/-- Slot `s`: its tiles have landed, then its heads. -/
def slot (d : Dev nD) (s : Fin 4) : ℙ PUnit :=
  waitSlot d s >>= fun _ => each heads (head d s)

/-! ## The other parts -/

/-- This device's columns of the query weights. -/
abbrev wqS (d : Dev nD) : Memref sig .tc .hbm S1024x1024 .f32 :=
  wqH.slice (Rect.unit (s := S1024x4096) (k0_off1 d) S1024x1024.size (k0_off1_inb d)) (fun _ => rfl)
/-- This device's rows of the output weights. -/
abbrev woS (d : Dev nD) : Memref sig .tc .hbm S1024x1024 .f32 :=
  woH.slice (Rect.unit (s := S4096x1024) (k0_off6 d) S1024x1024.size (k0_off6_inb d)) (fun _ => rfl)
/-- The half of the last receive buffer that round 4a fills. -/
abbrev r4a (d : Dev nD) : Memref sig .tc .vmem S64x1024 .bf16 :=
  r4M.slice (Rect.unit (s := S128x1024) (k0_off47 d) S64x1024.size (k0_off47_inb d)) (fun _ => rfl)
/-- The half of the last receive buffer that round 4b fills. -/
abbrev r4b (d : Dev nD) : Memref sig .tc .vmem S64x1024 .bf16 :=
  r4M.slice (Rect.unit (s := S128x1024) (k0_off48 d) S64x1024.size (k0_off48_inb d)) (fun _ => rfl)

/-- The entry: both partners are told that this device has entered, and both have told it; then the copy of
    the query weights starts. -/
def entry (d : Dev nD) : ℙ PUnit := do
  semSignalWord (⟨k0_dev1 d, k0_dev1_lt d⟩ : Dev nD) semB 1#32
  semSignalWord (⟨k0_dev2 d, k0_dev2_lt d⟩ : Dev nD) semB 1#32
  semWaitWord semB 2#32
  Prog.lift (.enqueueDma (wqS d) (.here wqM) (.dma semW) (View.wordExact_bits rfl) (Memref.isWhole_whole _).wordExact ⟨Or.inl rfl, trivial⟩)

/-- All copies of keys and values start, and that of the output weights. -/
def starts (d : Dev nD) : ℙ PUnit := do
  startSlot d 0
  startSlot d 1
  startSlot d 2
  startSlot d 3
  Prog.lift (.enqueueDma (woS d) (.here woM) (.dma semO) (View.wordExact_bits rfl) (Memref.isWhole_whole _).wordExact ⟨Or.inl rfl, trivial⟩)

/-- The scaled queries. -/
def queries (d : Dev nD) : ℙ PUnit := do
  Prog.lift (.waitDma2 semW (wqS d) wqM (View.wordExact_bits rfl) (Memref.isWhole_whole _).wordExact)
  let x : Vec F S1x256x1024 .f32 ← Prog.lift (.load xM (Rect.unit (s := S1x256x1024) ![0, 0, 0] S1x256x1024.size inb_S1x256x1024_S1x256x1024_0_0_0).toLoadRect (View.loadsAt_vmem h_S1x256x1024))
  let w : Vec F S1024x1024 .f32 ← Prog.lift (.load wqM (Rect.unit (s := S1024x1024) ![0, 0] S1024x1024.size inb_S1024x1024_S1024x1024_0_0).toLoadRect (View.loadsAt_vmem h_S1024x1024))
  let _ : Vec F S256x1024 .f32 ← Prog.lift (.load qM (Rect.unit (s := S256x1024) ![0, 0] S256x1024.size inb_S256x1024_S256x1024_0_0).toLoadRect (View.loadsAt_vmem h_S256x1024))
  Prog.lift (.store qM (Rect.unit (s := S256x1024) ![0, 0] S256x1024.size inb_S256x1024_S256x1024_0_0) (k0_pay2 x w) Finset.univ (View.stores_vmem_bits_univ h_S256x1024 rfl) (.inl rfl))

/-- The rows that round 1 sends: their part of the projection, and the send. -/
def round1 (d : Dev nD) : ℙ PUnit := do
  Prog.lift (.waitDma2 semO (woS d) woM (View.wordExact_bits rfl) (Memref.isWhole_whole _).wordExact)
  let c : Vec F S128x1024 .f32 ← Prog.lift (.load cM (Rect.unit (s := S256x1024) (k0_off23 d) S128x1024.size (k0_off23_inb d)).toLoadRect (View.loadsAt_vmem h_S128x1024))
  let w : Vec F S1024x1024 .f32 ← Prog.lift (.load woM (Rect.unit (s := S1024x1024) ![0, 0] S1024x1024.size inb_S1024x1024_S1024x1024_0_0).toLoadRect (View.loadsAt_vmem h_S1024x1024))
  let _ : Vec F S1x128x1024 .f32 ← Prog.lift (.load oM (Rect.unit (s := S1x256x1024) (k0_off24 d) S1x128x1024.size (k0_off24_inb d)).toLoadRect (View.loadsAt_vmem h_S1x128x1024))
  Prog.lift (.store oM (Rect.unit (s := S1x256x1024) (k0_off24 d) S1x128x1024.size (k0_off24_inb d)) (k0_pay29 c w) Finset.univ (View.stores_vmem_bits_univ h_S1x128x1024 rfl) (.inl rfl))
  let a : Vec F S1x128x1024 .f32 ← Prog.lift (.load oM (Rect.unit (s := S1x256x1024) (k0_off24 d) S1x128x1024.size (k0_off24_inb d)).toLoadRect (View.loadsAt_vmem h_S1x128x1024))
  let _ : Vec F S128x1024 .bf16 ← Prog.lift (.load s1M (Rect.unit (s := S128x1024) ![0, 0] S128x1024.size inb_S128x1024_S128x1024_0_0).toLoadRect (View.loadsAt_vmem h_S128x1024))
  Prog.lift (.store s1M (Rect.unit (s := S128x1024) ![0, 0] S128x1024.size inb_S128x1024_S128x1024_0_0) (k0_pay31 (k0_pay30 a)) Finset.univ (View.stores_vmem h_S128x1024 ((Memref.isWhole_whole cc0_scratch6).storeExact_slice rfl _ packedbf16_S128x1024_S128x1024_0_0) (fun _ => rfl)) (.inl rfl))
  Prog.lift (.enqueueDma s1M (.remote (Dev.tc (⟨k0_dev3 d, k0_dev3_lt d⟩ : Dev nD)) r1M (.dma (semS 0))) (.dma (semR 0)) (Memref.isWhole_whole _).wordExact (Memref.isWhole_whole _).wordExact ⟨⟨rfl, Or.inl rfl⟩, trivial⟩)

/-- The rows that round 2 sends: their part of the projection, round 1's part added, and the send. -/
def round2 (d : Dev nD) : ℙ PUnit := do
  let c : Vec F S64x1024 .f32 ← Prog.lift (.load cM (Rect.unit (s := S256x1024) (k0_off33 d) S64x1024.size (k0_off33_inb d)).toLoadRect (View.loadsAt_vmem h_S64x1024))
  let w : Vec F S1024x1024 .f32 ← Prog.lift (.load woM (Rect.unit (s := S1024x1024) ![0, 0] S1024x1024.size inb_S1024x1024_S1024x1024_0_0).toLoadRect (View.loadsAt_vmem h_S1024x1024))
  let _ : Vec F S1x64x1024 .f32 ← Prog.lift (.load oM (Rect.unit (s := S1x256x1024) (k0_off34 d) S1x64x1024.size (k0_off34_inb d)).toLoadRect (View.loadsAt_vmem h_S1x64x1024))
  Prog.lift (.store oM (Rect.unit (s := S1x256x1024) (k0_off34 d) S1x64x1024.size (k0_off34_inb d)) (k0_pay44 c w) Finset.univ (View.stores_vmem_bits_univ h_S1x64x1024 rfl) (.inl rfl))
  Prog.lift (.waitDma2 (semS 0) r1M s1M (Memref.isWhole_whole _).wordExact (Memref.isWhole_whole _).wordExact)
  Prog.lift (.waitDma2 (semR 0) s1M r1M (Memref.isWhole_whole _).wordExact (Memref.isWhole_whole _).wordExact)
  let a : Vec F S1x64x1024 .f32 ← Prog.lift (.load oM (Rect.unit (s := S1x256x1024) (k0_off34 d) S1x64x1024.size (k0_off34_inb d)).toLoadRect (View.loadsAt_vmem h_S1x64x1024))
  let b : Vec F S64x1024 .bf16 ← Prog.lift (.load r1M (Rect.unit (s := S128x1024) (k0_off35 d) S64x1024.size (k0_off35_inb d)).toLoadRect (View.loadsAt_vmem h_S64x1024))
  let _ : Vec F S1x64x1024 .f32 ← Prog.lift (.load oM (Rect.unit (s := S1x256x1024) (k0_off34 d) S1x64x1024.size (k0_off34_inb d)).toLoadRect (View.loadsAt_vmem h_S1x64x1024))
  Prog.lift (.store oM (Rect.unit (s := S1x256x1024) (k0_off34 d) S1x64x1024.size (k0_off34_inb d)) (k0_pay45 a b) Finset.univ (View.stores_vmem_bits_univ h_S1x64x1024 rfl) (.inl rfl))
  let a : Vec F S1x64x1024 .f32 ← Prog.lift (.load oM (Rect.unit (s := S1x256x1024) (k0_off34 d) S1x64x1024.size (k0_off34_inb d)).toLoadRect (View.loadsAt_vmem h_S1x64x1024))
  let _ : Vec F S64x1024 .bf16 ← Prog.lift (.load s2M (Rect.unit (s := S64x1024) ![0, 0] S64x1024.size inb_S64x1024_S64x1024_0_0).toLoadRect (View.loadsAt_vmem h_S64x1024))
  Prog.lift (.store s2M (Rect.unit (s := S64x1024) ![0, 0] S64x1024.size inb_S64x1024_S64x1024_0_0) (k0_pay46 a) Finset.univ (View.stores_vmem h_S64x1024 ((Memref.isWhole_whole cc0_scratch7).storeExact_slice rfl _ packedbf16_S64x1024_S64x1024_0_0) (fun _ => rfl)) (.inl rfl))
  Prog.lift (.enqueueDma s2M (.remote (Dev.tc (⟨k0_dev4 d, k0_dev4_lt d⟩ : Dev nD)) r2M (.dma (semS 1))) (.dma (semR 1)) (Memref.isWhole_whole _).wordExact (Memref.isWhole_whole _).wordExact ⟨⟨rfl, Or.inl rfl⟩, trivial⟩)

/-- The rows this device completes: their part of the projection, the parts of rounds 1 and 2 added, and the
    sends of rounds 3 and 4a. -/
def round3 (d : Dev nD) : ℙ PUnit := do
  let c : Vec F S64x1024 .f32 ← Prog.lift (.load cM (Rect.unit (s := S256x1024) (k0_off44 d) S64x1024.size (k0_off44_inb d)).toLoadRect (View.loadsAt_vmem h_S64x1024))
  let w : Vec F S1024x1024 .f32 ← Prog.lift (.load woM (Rect.unit (s := S1024x1024) ![0, 0] S1024x1024.size inb_S1024x1024_S1024x1024_0_0).toLoadRect (View.loadsAt_vmem h_S1024x1024))
  let _ : Vec F S1x64x1024 .f32 ← Prog.lift (.load oM (Rect.unit (s := S1x256x1024) (k0_off45 d) S1x64x1024.size (k0_off45_inb d)).toLoadRect (View.loadsAt_vmem h_S1x64x1024))
  Prog.lift (.store oM (Rect.unit (s := S1x256x1024) (k0_off45 d) S1x64x1024.size (k0_off45_inb d)) (k0_pay58 c w) Finset.univ (View.stores_vmem_bits_univ h_S1x64x1024 rfl) (.inl rfl))
  let a : Vec F S1x64x1024 .f32 ← Prog.lift (.load oM (Rect.unit (s := S1x256x1024) (k0_off45 d) S1x64x1024.size (k0_off45_inb d)).toLoadRect (View.loadsAt_vmem h_S1x64x1024))
  let b : Vec F S64x1024 .bf16 ← Prog.lift (.load r1M (Rect.unit (s := S128x1024) (k0_off46 d) S64x1024.size (k0_off46_inb d)).toLoadRect (View.loadsAt_vmem h_S64x1024))
  let _ : Vec F S1x64x1024 .f32 ← Prog.lift (.load oM (Rect.unit (s := S1x256x1024) (k0_off45 d) S1x64x1024.size (k0_off45_inb d)).toLoadRect (View.loadsAt_vmem h_S1x64x1024))
  Prog.lift (.store oM (Rect.unit (s := S1x256x1024) (k0_off45 d) S1x64x1024.size (k0_off45_inb d)) (k0_pay59 a b) Finset.univ (View.stores_vmem_bits_univ h_S1x64x1024 rfl) (.inl rfl))
  Prog.lift (.waitDma2 (semS 1) r2M s2M (Memref.isWhole_whole _).wordExact (Memref.isWhole_whole _).wordExact)
  Prog.lift (.waitDma2 (semR 1) s2M r2M (Memref.isWhole_whole _).wordExact (Memref.isWhole_whole _).wordExact)
  let a : Vec F S1x64x1024 .f32 ← Prog.lift (.load oM (Rect.unit (s := S1x256x1024) (k0_off45 d) S1x64x1024.size (k0_off45_inb d)).toLoadRect (View.loadsAt_vmem h_S1x64x1024))
  let b : Vec F S64x1024 .bf16 ← Prog.lift (.load r2M (Rect.unit (s := S64x1024) ![0, 0] S64x1024.size inb_S64x1024_S64x1024_0_0).toLoadRect (View.loadsAt_vmem h_S64x1024))
  let _ : Vec F S1x64x1024 .f32 ← Prog.lift (.load oM (Rect.unit (s := S1x256x1024) (k0_off45 d) S1x64x1024.size (k0_off45_inb d)).toLoadRect (View.loadsAt_vmem h_S1x64x1024))
  Prog.lift (.store oM (Rect.unit (s := S1x256x1024) (k0_off45 d) S1x64x1024.size (k0_off45_inb d)) (k0_pay60 a b) Finset.univ (View.stores_vmem_bits_univ h_S1x64x1024 rfl) (.inl rfl))
  let a : Vec F S1x64x1024 .f32 ← Prog.lift (.load oM (Rect.unit (s := S1x256x1024) (k0_off45 d) S1x64x1024.size (k0_off45_inb d)).toLoadRect (View.loadsAt_vmem h_S1x64x1024))
  let _ : Vec F S64x1024 .bf16 ← Prog.lift (.load s3M (Rect.unit (s := S64x1024) ![0, 0] S64x1024.size inb_S64x1024_S64x1024_0_0).toLoadRect (View.loadsAt_vmem h_S64x1024))
  Prog.lift (.store s3M (Rect.unit (s := S64x1024) ![0, 0] S64x1024.size inb_S64x1024_S64x1024_0_0) (k0_pay61 a) Finset.univ (View.stores_vmem h_S64x1024 ((Memref.isWhole_whole cc0_scratch8).storeExact_slice rfl _ packedbf16_S64x1024_S64x1024_0_0) (fun _ => rfl)) (.inl rfl))
  Prog.lift (.enqueueDma s3M (.remote (Dev.tc (⟨k0_dev5 d, k0_dev5_lt d⟩ : Dev nD)) r3M (.dma (semS 2))) (.dma (semR 2)) (Memref.isWhole_whole _).wordExact (Memref.isWhole_whole _).wordExact ⟨⟨rfl, Or.inl rfl⟩, trivial⟩)
  Prog.lift (.enqueueDma s3M (.remote (Dev.tc (⟨k0_dev6 d, k0_dev6_lt d⟩ : Dev nD)) (r4a d) (.dma (semS 3))) (.dma (semR 3)) (Memref.isWhole_whole _).wordExact ((Memref.isWhole_whole cc0_scratch12).wordExact_slice rfl _ (k0_off47_wordsbf16 d)) ⟨⟨rfl, Or.inl rfl⟩, trivial⟩)

/-- Rounds 3 and 4 land; the rows they bring are written out. -/
def round4 (d : Dev nD) : ℙ PUnit := do
  Prog.lift (.waitDma2 (semS 2) r3M s3M (Memref.isWhole_whole _).wordExact (Memref.isWhole_whole _).wordExact)
  Prog.lift (.waitDma2 (semR 2) s3M r3M (Memref.isWhole_whole _).wordExact (Memref.isWhole_whole _).wordExact)
  let b : Vec F S64x1024 .bf16 ← Prog.lift (.load r3M (Rect.unit (s := S64x1024) ![0, 0] S64x1024.size inb_S64x1024_S64x1024_0_0).toLoadRect (View.loadsAt_vmem h_S64x1024))
  let _ : Vec F S1x64x1024 .f32 ← Prog.lift (.load oM (Rect.unit (s := S1x256x1024) (k0_off34 d) S1x64x1024.size (k0_off34_inb d)).toLoadRect (View.loadsAt_vmem h_S1x64x1024))
  Prog.lift (.store oM (Rect.unit (s := S1x256x1024) (k0_off34 d) S1x64x1024.size (k0_off34_inb d)) (k0_pay62 b) Finset.univ (View.stores_vmem_bits_univ h_S1x64x1024 rfl) (.inl rfl))
  Prog.lift (.enqueueDma r3M (.remote (Dev.tc (⟨k0_dev7 d, k0_dev7_lt d⟩ : Dev nD)) (r4b d) (.dma (semS 4))) (.dma (semR 4)) (Memref.isWhole_whole _).wordExact ((Memref.isWhole_whole cc0_scratch12).wordExact_slice rfl _ (k0_off48_wordsbf16 d)) ⟨⟨rfl, Or.inl rfl⟩, trivial⟩)
  Prog.lift (.waitDma2 (semS 3) (r4a d) s3M ((Memref.isWhole_whole cc0_scratch12).wordExact_slice rfl _ (k0_off47_wordsbf16 d)) (Memref.isWhole_whole _).wordExact)
  Prog.lift (.waitDma2 (semR 3) s3M (r4a d) (Memref.isWhole_whole _).wordExact ((Memref.isWhole_whole cc0_scratch12).wordExact_slice rfl _ (k0_off47_wordsbf16 d)))
  Prog.lift (.waitDma2 (semS 4) (r4b d) r3M ((Memref.isWhole_whole cc0_scratch12).wordExact_slice rfl _ (k0_off48_wordsbf16 d)) (Memref.isWhole_whole _).wordExact)
  Prog.lift (.waitDma2 (semR 4) r3M (r4b d) (Memref.isWhole_whole _).wordExact ((Memref.isWhole_whole cc0_scratch12).wordExact_slice rfl _ (k0_off48_wordsbf16 d)))
  let b : Vec F S128x1024 .bf16 ← Prog.lift (.load r4M (Rect.unit (s := S128x1024) ![0, 0] S128x1024.size inb_S128x1024_S128x1024_0_0).toLoadRect (View.loadsAt_vmem h_S128x1024))
  let _ : Vec F S1x128x1024 .f32 ← Prog.lift (.load oM (Rect.unit (s := S1x256x1024) (k0_off24 d) S1x128x1024.size (k0_off24_inb d)).toLoadRect (View.loadsAt_vmem h_S1x128x1024))
  Prog.lift (.store oM (Rect.unit (s := S1x256x1024) (k0_off24 d) S1x128x1024.size (k0_off24_inb d)) (k0_pay1 (k0_pay63 b)) Finset.univ (View.stores_vmem_bits_univ h_S1x128x1024 rfl) (.inl rfl))

/-- The body of device `d`. -/
def planAt (d : Dev nD) : ℙ PUnit := do
  entry d
  starts d
  queries d
  slot d 0
  slot d 1
  round1 d
  slot d 2
  round2 d
  slot d 3
  round3 d
  round4 d

/-- The body. -/
def plan : ℙ PUnit := do
  let d : Dev nD ← Prog.lift .deviceId
  planAt d

/-- The printed body is the structured one. -/
theorem body_eq_plan : bodyAt0 (F := F) t0_0 = plan := by
  unfold bodyAt0
  chain_rfl

end Cert.KernelIdealProof

end
-- ==== Proof.KernelIdeal.Contents.lean ====
/- What the buffers of a device hold, as functions of the arguments of all devices. -/
module

public import proofs.«01_k».proof.Proof.KernelIdeal.Plan
public import Idealize.ShloMosaic.Lib.ValueIdx

@[expose] public section

set_option maxRecDepth 16384

noncomputable section

namespace Cert.KernelIdealProof

open Idealize.ShloMosaic Idealize.ShloMosaic.TcCoe Idealize.SL.Sem
open Idealize.ShloMosaic.ValueIdx
open Cert.KernelIdeal Cert.KernelIdeal.Gen

variable {F : FTy → Type} [FloatOps F]

/-! ## The partners -/

/-- The partner of rounds 1 and 4. -/
def pa (c : Dev nD) : Dev nD := match c with | 0 => 1 | 1 => 0 | 2 => 3 | 3 => 2
/-- The partner of rounds 2 and 3. -/
def pb (c : Dev nD) : Dev nD := match c with | 0 => 3 | 1 => 2 | 2 => 1 | 3 => 0

theorem pa_pa (c : Dev nD) : pa (pa c) = c := by revert c; decide
theorem pb_pb (c : Dev nD) : pb (pb c) = c := by revert c; decide

/-! ## The row blocks, by slot -/

/-- The block of 64 query rows that slot `s` works on. -/
def blk (d : Dev nD) (s : Fin 4) : Fin 4 := match d, s with
  | 0, 0 => 2 | 0, 1 => 3 | 0, 2 => 1 | 0, 3 => 0
  | 1, 0 => 0 | 1, 1 => 1 | 1, 2 => 3 | 1, 3 => 2
  | 2, 0 => 0 | 2, 1 => 1 | 2, 2 => 2 | 2, 3 => 3
  | 3, 0 => 2 | 3, 1 => 3 | 3, 2 => 0 | 3, 3 => 1

/-- The slot that works on a block of rows. -/
def slotOf (d : Dev nD) (b : Fin 4) : Fin 4 := match d, b with
  | 0, 2 => 0 | 0, 3 => 1 | 0, 1 => 2 | 0, 0 => 3
  | 1, 0 => 0 | 1, 1 => 1 | 1, 3 => 2 | 1, 2 => 3
  | 2, 0 => 0 | 2, 1 => 1 | 2, 2 => 2 | 2, 3 => 3
  | 3, 2 => 0 | 3, 3 => 1 | 3, 0 => 2 | 3, 1 => 3

theorem blk_slotOf (d : Dev nD) (b : Fin 4) : blk d (slotOf d b) = b := by revert d b; decide
theorem slotOf_blk (d : Dev nD) (s : Fin 4) : slotOf d (blk d s) = s := by revert d s; decide

theorem kvOff_eq : ∀ (d : Dev nD) (s : Fin 4) (t : Fin 16), kvOff d s t = ![0, 64 * (blk d s).val + 256 * t.val, 0, 0] := by
  decide +kernel
theorem qOff_eq : ∀ (d : Dev nD) (s : Fin 4) (h : Fin 8), qOff d s h = ![64 * (blk d s).val, 128 * h.val] := by
  decide +kernel

/-- Rows sent in round 1: the blocks of slots 0 and 1; in round 2: the block of slot 2; kept: the block of slot 3. -/
theorem off23_eq' : ∀ d : Dev nD, k0_off23 d = ![64 * (blk d 0).val, 0] := by decide +kernel
theorem off24_eq' : ∀ d : Dev nD, k0_off24 d = ![0, 64 * (blk d 0).val, 0] := by decide +kernel
theorem off33_eq' : ∀ d : Dev nD, k0_off33 d = ![64 * (blk d 2).val, 0] := by decide +kernel
theorem off34_eq' : ∀ d : Dev nD, k0_off34 d = ![0, 64 * (blk d 2).val, 0] := by decide +kernel
theorem off44_eq' : ∀ d : Dev nD, k0_off44 d = ![64 * (blk d 3).val, 0] := by decide +kernel
theorem off45_eq' : ∀ d : Dev nD, k0_off45 d = ![0, 64 * (blk d 3).val, 0] := by decide +kernel
/-- The block of slot 1 follows that of slot 0. -/
theorem blk_one : ∀ d : Dev nD, (blk d 1).val = (blk d 0).val + 1 := by decide

/-! ## The gathered keys and values -/

/-- The row of the keys that row `r` of the gathered rows of row block `b` is. -/
def keyRow (b : Fin 4) (r : Fin 1024) : Fin 4096 := ⟨64 * b.val + 256 * (r.val / 64) + r.val % 64, by omega⟩

/-- The gathered keys (or values), from the whole. -/
def gathered (d : Dev nD) (K : S1x4096x8x128.Idx → Elt F .f32) : S4x1024x8x128.Idx → Elt F .f32 :=
  fun i => K (ix4 (0 : Fin 1) (keyRow (blk d (i 0)) (i 1)) (i 2) (i 3))

/-- Head `h` of the gathered rows of row block `b`. -/
def kvWin (K : S1x4096x8x128.Idx → Elt F .f32) (b : Fin 4) (h : Fin 8) : S1x1024x1x128.Idx → Elt F .f32 :=
  fun y => K (ix4 (0 : Fin 1) (keyRow b (y 1)) h (y 3))

/-- Head `h` of row block `b` of the queries. -/
def qWin (Q : S256x1024.Idx → Elt F .f32) (b : Fin 4) (h : Fin 8) : S64x128.Idx → Elt F .f32 :=
  fun y => Q (ix2 (⟨64 * b.val + (y 0).val, by have : (y 0).val < 64 := (y 0).isLt; omega⟩ : Fin 256)
    (⟨128 * h.val + (y 1).val, by have : (y 1).val < 128 := (y 1).isLt; omega⟩ : Fin 1024))

/-- The context, of all heads and row blocks. -/
def context (Q : S256x1024.Idx → Elt F .f32) (K V : S1x4096x8x128.Idx → Elt F .f32) : S256x1024.Idx → Elt F .f32 :=
  fun i =>
    let b : Fin 4 := ⟨(i 0).val / 64, by have : (i 0).val < 256 := (i 0).isLt; omega⟩
    let h : Fin 8 := ⟨(i 1).val / 128, by have : (i 1).val < 1024 := (i 1).isLt; omega⟩
    k0_pay3 (qWin Q b h) (kvWin K b h) (kvWin V b h)
      (ix2 (⟨(i 0).val % 64, Nat.mod_lt _ (by decide)⟩ : Fin 64) (⟨(i 1).val % 128, Nat.mod_lt _ (by decide)⟩ : Fin 128))

/-! ## What each buffer holds -/

variable (m : (ℓ : Loc nD τ sig) → Buf (Elt F) ℓ)

/-- The activations as staged. -/
def xC (c : Dev nD) : S1x256x1024.Idx → Elt F .f32 :=
  (win0_0.blk (0 : Fin 1)).view.read (Elt F) (m ((c : Thread nD τ).loc main_arg0))
/-- The query weights. -/
abbrev wqA (c : Dev nD) : S1024x4096.Idx → Elt F .f32 := m ((c : Thread nD τ).loc main_arg1)
/-- The keys. -/
abbrev kA (c : Dev nD) : S1x4096x8x128.Idx → Elt F .f32 := m ((c : Thread nD τ).loc main_arg2)
/-- The values. -/
abbrev vA (c : Dev nD) : S1x4096x8x128.Idx → Elt F .f32 := m ((c : Thread nD τ).loc main_arg3)
/-- The output weights. -/
abbrev woA (c : Dev nD) : S4096x1024.Idx → Elt F .f32 := m ((c : Thread nD τ).loc main_arg4)
/-- This device's columns of the query weights. -/
def wqC (c : Dev nD) : S1024x1024.Idx → Elt F .f32 := (wqS c).view.read (Elt F) (wqA m c)
/-- This device's rows of the output weights. -/
def woC (c : Dev nD) : S1024x1024.Idx → Elt F .f32 := (woS c).view.read (Elt F) (woA m c)
/-- The scaled queries. -/
def qC (c : Dev nD) : S256x1024.Idx → Elt F .f32 := k0_pay2 (xC m c) (wqC m c)
/-- The context. -/
def ctxC (c : Dev nD) : S256x1024.Idx → Elt F .f32 := context (qC m c) (kA m c) (vA m c)

/-- The window that round 1 sends, of the result. -/
abbrev w24 (c : Dev nD) : Rect S1x256x1024 := Rect.unit (s := S1x256x1024) (k0_off24 c) S1x128x1024.size (k0_off24_inb c)
/-- The window that round 2 sends. -/
abbrev w34 (c : Dev nD) : Rect S1x256x1024 := Rect.unit (s := S1x256x1024) (k0_off34 c) S1x64x1024.size (k0_off34_inb c)
/-- The window that this device completes. -/
abbrev w45 (c : Dev nD) : Rect S1x256x1024 := Rect.unit (s := S1x256x1024) (k0_off45 c) S1x64x1024.size (k0_off45_inb c)
/-- The same windows of the context. -/
abbrev w23 (c : Dev nD) : Rect S256x1024 := Rect.unit (s := S256x1024) (k0_off23 c) S128x1024.size (k0_off23_inb c)
abbrev w33 (c : Dev nD) : Rect S256x1024 := Rect.unit (s := S256x1024) (k0_off33 c) S64x1024.size (k0_off33_inb c)
abbrev w44 (c : Dev nD) : Rect S256x1024 := Rect.unit (s := S256x1024) (k0_off44 c) S64x1024.size (k0_off44_inb c)
/-- The windows of what round 1 received. -/
abbrev w35 (c : Dev nD) : Rect S128x1024 := Rect.unit (s := S128x1024) (k0_off35 c) S64x1024.size (k0_off35_inb c)
abbrev w46 (c : Dev nD) : Rect S128x1024 := Rect.unit (s := S128x1024) (k0_off46 c) S64x1024.size (k0_off46_inb c)

/-- What round 1 sends. -/
def s1C (c : Dev nD) : S128x1024.Idx → Elt F .bf16 :=
  k0_pay31 (k0_pay30 (k0_pay29 (cM.view.readAt (Elt F) (w23 c).toLoadRect (ctxC m c)) (woC m c)))
/-- This device's and round 1's part of the rows that round 2 sends. -/
def a2C (c : Dev nD) : S1x64x1024.Idx → Elt F .f32 :=
  k0_pay45 (k0_pay44 (cM.view.readAt (Elt F) (w33 c).toLoadRect (ctxC m c)) (woC m c))
    (r1M.view.readAt (Elt F) (w35 c).toLoadRect (s1C m (pa c)))
/-- What round 2 sends. -/
def s2C (c : Dev nD) : S64x1024.Idx → Elt F .bf16 := k0_pay46 (a2C m c)
/-- The rows that this device completes. -/
def a3C (c : Dev nD) : S1x64x1024.Idx → Elt F .f32 :=
  k0_pay60 (k0_pay59 (k0_pay58 (cM.view.readAt (Elt F) (w44 c).toLoadRect (ctxC m c)) (woC m c))
    (r1M.view.readAt (Elt F) (w46 c).toLoadRect (s1C m (pa c)))) (s2C m (pb c))
/-- What rounds 3 and 4a send. -/
def s3C (c : Dev nD) : S64x1024.Idx → Elt F .bf16 := k0_pay61 (a3C m c)
/-- What rounds 4a and 4b bring. -/
def r4C (c : Dev nD) : S128x1024.Idx → Elt F .bf16 :=
  (r4b (pa c)).view.write (Elt F) ((r4a (pa c)).view.write (Elt F) (s1C m c) (s3C m (pa c)) Finset.univ) (s3C m (pb (pa c))) Finset.univ
/-- The result. -/
def outC (c : Dev nD) : S1x256x1024.Idx → Elt F .f32 :=
  (oM.access (w24 c) : View sig .tc _ _ _).write (Elt F)
    ((oM.access (w34 c) : View sig .tc _ _ _).write (Elt F)
      ((oM.access (w45 c) : View sig .tc _ _ _).write (Elt F) (xC m c) (a3C m c) Finset.univ)
      (k0_pay62 (s3C m (pb c))) Finset.univ)
    (k0_pay1 (k0_pay63 (r4C m c))) Finset.univ

/-! ## Reads and writes of windows -/

theorem tile_index (d : Dev nD) (s : Fin 4) (t : Fin 16) (z : S1x64x8x128.Idx) :
    (Rect.unit (s := S1x4096x8x128) (kvOff d s t) S1x64x8x128.size (kvOff_inb d s t)).emb z
      = (fun i : S4x1024x8x128.Idx => (ix4 (0 : Fin 1) (keyRow (blk d (i 0)) (i 1)) (i 2) (i 3) : S1x4096x8x128.Idx))
          ((Rect.unit (s := S4x1024x8x128) ![s.val, 64 * t.val, 0, 0] S1x64x8x128.size (gOff_inb s t)).emb z) := by
  have h0 : (z 0).val < 1 := (z 0).isLt
  have h1 : (z 1).val < 64 := (z 1).isLt
  have e0 : (Rect.unit (s := S4x1024x8x128) ![s.val, 64 * t.val, 0, 0] S1x64x8x128.size (gOff_inb s t)).emb z 0 = s :=
    Fin.ext (by rw [Rect.emb_apply]; show s.val + 1 * (z 0).val = s.val; omega)
  have hv : ∀ a : Fin 4, ((Rect.unit (s := S1x4096x8x128) (kvOff d s t) S1x64x8x128.size (kvOff_inb d s t)).emb z a).val = kvOff d s t a + 1 * (z a).val :=
    fun a => rfl
  funext a
  refine Fin.ext ?_
  rw [hv a, kvOff_eq]
  beta_reduce
  rw [e0]
  match a with
  | ⟨0, _⟩ => show 0 + 1 * (z 0).val = 0; omega
  | ⟨1, _⟩ =>
    show 64 * (blk d s).val + 256 * t.val + 1 * (z 1).val = 64 * (blk d s).val + 256 * ((64 * t.val + 1 * (z 1).val) / 64) + (64 * t.val + 1 * (z 1).val) % 64
    omega
  | ⟨2, _⟩ => rfl
  | ⟨3, _⟩ => rfl

/-- The tile `t` of slot `s` of the keys lands where the gathered keys have it. -/
theorem tile_lands (d : Dev nD) (s : Fin 4) (t : Fin 16) (K : S1x4096x8x128.Idx → Elt F .f32)
    (fd : (cc0_scratch2 : Ref sig .tc).ty.Contents (Elt F)) :
    ∀ i ∈ (dstT kM s t).view.set, (dstT kM s t).view.write (Elt F) fd ((srcT kH d s t).view.read (Elt F) K) Finset.univ i = gathered d K i := by
  intro i hi
  obtain ⟨x, -, rfl⟩ := Finset.mem_map.mp hi
  rw [View.write_emb_of_mem _ _ (Finset.mem_univ _), View.read_apply]
  show K _ = K _
  congr 1
  show (Rect.unit (s := S1x4096x8x128) (kvOff d s t) S1x64x8x128.size (kvOff_inb d s t)).emb (Shape.reshapeEquiv squeezes_S1x64x8x128_S64x8x128.numel_eq x)
    = (fun i : S4x1024x8x128.Idx => (ix4 (0 : Fin 1) (keyRow (blk d (i 0)) (i 1)) (i 2) (i 3) : S1x4096x8x128.Idx))
      ((Rect.unit (s := S4x1024x8x128) ![s.val, 64 * t.val, 0, 0] S1x64x8x128.size (gOff_inb s t)).emb (Shape.reshapeEquiv squeezes_S1x64x8x128_S64x8x128.numel_eq x))
  generalize Shape.reshapeEquiv squeezes_S1x64x8x128_S64x8x128.numel_eq x = z
  exact tile_index d s t z

/-- The tile `t` of slot `s` of the values lands where the gathered values have it. -/
theorem tile_lands_v (d : Dev nD) (s : Fin 4) (t : Fin 16) (K : S1x4096x8x128.Idx → Elt F .f32)
    (fd : (cc0_scratch3 : Ref sig .tc).ty.Contents (Elt F)) :
    ∀ i ∈ (dstT vM s t).view.set, (dstT vM s t).view.write (Elt F) fd ((srcT vH d s t).view.read (Elt F) K) Finset.univ i = gathered d K i := by
  intro i hi
  obtain ⟨x, -, rfl⟩ := Finset.mem_map.mp hi
  rw [View.write_emb_of_mem _ _ (Finset.mem_univ _), View.read_apply]
  show K _ = K _
  congr 1
  exact tile_index d s t (Shape.reshapeEquiv squeezes_S1x64x8x128_S64x8x128.numel_eq x)

/-- The elements of a tile of the gathered buffers: those of slot `s` in its 64 rows. -/
def tileSet (s : Fin 4) (t : Fin 16) : Finset S4x1024x8x128.Idx :=
  Finset.univ.filter fun i => (i 0).val = s.val ∧ (i 1).val / 64 = t.val
/-- The elements of a slot of the gathered buffers. -/
def slotSet (s : Fin 4) : Finset S4x1024x8x128.Idx := Finset.univ.filter fun i => (i 0).val = s.val

theorem tile_set (s : Fin 4) (t : Fin 16) :
    (Rect.unit (s := S4x1024x8x128) ![s.val, 64 * t.val, 0, 0] S1x64x8x128.size (gOff_inb s t)).set = tileSet s t := by
  ext i
  rw [Rect.mem_set_unit]
  have h1 : (i 1).val < 1024 := (i 1).isLt
  have h2 : (i 2).val < 8 := (i 2).isLt
  have h3 : (i 3).val < 128 := (i 3).isLt
  simp only [tileSet, Finset.mem_filter, Finset.mem_univ, true_and]
  constructor
  · intro h
    have a0 : s.val ≤ (i 0).val ∧ (i 0).val < s.val + 1 := h 0
    have a1 : 64 * t.val ≤ (i 1).val ∧ (i 1).val < 64 * t.val + 64 := h 1
    omega
  · rintro ⟨a0, a1⟩ a
    match a with
    | ⟨0, _⟩ => show s.val ≤ (i 0).val ∧ (i 0).val < s.val + 1; omega
    | ⟨1, _⟩ => show 64 * t.val ≤ (i 1).val ∧ (i 1).val < 64 * t.val + 64; omega
    | ⟨2, _⟩ => show 0 ≤ (i 2).val ∧ (i 2).val < 0 + 8; omega
    | ⟨3, _⟩ => show 0 ≤ (i 3).val ∧ (i 3).val < 0 + 128; omega

theorem dstT_set_k (s : Fin 4) (t : Fin 16) : (dstT kM s t).view.set = tileSet s t :=
  ((View.set_reshape _ _).trans (View.set_slice_whole _ _)).trans (tile_set s t)
theorem dstT_set_v (s : Fin 4) (t : Fin 16) : (dstT vM s t).view.set = tileSet s t :=
  ((View.set_reshape _ _).trans (View.set_slice_whole _ _)).trans (tile_set s t)

theorem slotSet_tiles (s : Fin 4) : slotSet s = Finset.univ.biUnion (tileSet s) := by
  ext i
  have h1 : (i 1).val < 1024 := (i 1).isLt
  simp only [slotSet, tileSet, Finset.mem_filter, Finset.mem_univ, true_and, Finset.mem_biUnion]
  exact ⟨fun h => ⟨⟨(i 1).val / 64, by omega⟩, h, rfl⟩, fun ⟨_, h, _⟩ => h⟩
theorem univ_slots : (Finset.univ : Finset S4x1024x8x128.Idx) = Finset.univ.biUnion slotSet := by
  ext i
  simp only [slotSet, Finset.mem_filter, Finset.mem_univ, true_and, Finset.mem_biUnion, true_iff]
  exact ⟨i 0, rfl⟩
theorem tileSet_disjoint (s : Fin 4) : ∀ t ∈ (Finset.univ : Finset (Fin 16)), ∀ t' ∈ (Finset.univ : Finset (Fin 16)), t ≠ t' → Disjoint (tileSet s t) (tileSet s t') := by
  intro t _ t' _ h
  rw [Finset.disjoint_left]
  intro i hi hi'
  simp only [tileSet, Finset.mem_filter, Finset.mem_univ, true_and] at hi hi'
  exact h (Fin.ext (hi.2.symm.trans hi'.2))
theorem slotSet_disjoint : ∀ t ∈ (Finset.univ : Finset (Fin 4)), ∀ t' ∈ (Finset.univ : Finset (Fin 4)), t ≠ t' → Disjoint (slotSet t) (slotSet t') := by
  intro t _ t' _ h
  rw [Finset.disjoint_left]
  intro i hi hi'
  simp only [slotSet, Finset.mem_filter, Finset.mem_univ, true_and] at hi hi'
  exact h (Fin.ext (hi.symm.trans hi'))

/-- The window of head `h` of slot `s` of the gathered buffers; -/
abbrev hW (s : Fin 4) (h : Fin 8) : Rect S4x1024x8x128 := Rect.unit (s := S4x1024x8x128) ![s.val, 0, h.val, 0] S1x1024x1x128.size (hOff_inb s h)
/-- of the queries and the context. -/
abbrev qW (d : Dev nD) (s : Fin 4) (h : Fin 8) : Rect S256x1024 := Rect.unit (s := S256x1024) (qOff d s h) S64x128.size (qOff_inb d s h)

theorem hW_subset (s : Fin 4) (h : Fin 8) : (hW s h).set ⊆ slotSet s := by
  intro i hi
  rw [Rect.mem_set_unit] at hi
  have a0 : s.val ≤ (i 0).val ∧ (i 0).val < s.val + 1 := hi 0
  simp only [slotSet, Finset.mem_filter, Finset.mem_univ, true_and]
  omega

/-- The head's window of the gathered rows, read. -/
theorem hW_read (d : Dev nD) (s : Fin 4) (h : Fin 8) (K : S1x4096x8x128.Idx → Elt F .f32) :
    (fun y => gathered d K ((hW s h).idx y)) = kvWin K (blk d s) h := by
  funext y
  have h0 : (y 0).val < 1 := (y 0).isLt
  have h2 : (y 2).val < 1 := (y 2).isLt
  have e0 : (hW s h).idx y 0 = s := Fin.ext (by show s.val + 1 * (y 0).val = s.val; omega)
  have e1 : (hW s h).idx y 1 = y 1 := Fin.ext (by show 0 + 1 * (y 1).val = (y 1).val; omega)
  have e2 : (hW s h).idx y 2 = h := Fin.ext (by show h.val + 1 * (y 2).val = h.val; omega)
  have e3 : (hW s h).idx y 3 = y 3 := Fin.ext (by show 0 + 1 * (y 3).val = (y 3).val; omega)
  unfold gathered kvWin
  rw [e0, e1, e2, e3]

theorem kM_read (d : Dev nD) (s : Fin 4) (h : Fin 8) (K : S1x4096x8x128.Idx → Elt F .f32) :
    kM.view.readAt (Elt F) (hW s h).toLoadRect (gathered d K) = kvWin K (blk d s) h := hW_read d s h K
theorem vM_read (d : Dev nD) (s : Fin 4) (h : Fin 8) (K : S1x4096x8x128.Idx → Elt F .f32) :
    vM.view.readAt (Elt F) (hW s h).toLoadRect (gathered d K) = kvWin K (blk d s) h := hW_read d s h K

theorem qM_read (d : Dev nD) (s : Fin 4) (h : Fin 8) (Q : S256x1024.Idx → Elt F .f32) :
    qM.view.readAt (Elt F) (qW d s h).toLoadRect Q = qWin Q (blk d s) h := by
  funext y
  show Q ((qW d s h).idx y) = _
  unfold qWin
  congr 1
  funext a
  refine Fin.ext ?_
  show qOff d s h a + 1 * (y a).val = _
  rw [qOff_eq]
  match a with
  | ⟨0, _⟩ => show 64 * (blk d s).val + 1 * (y 0).val = 64 * (blk d s).val + (y 0).val; omega
  | ⟨1, _⟩ => show 128 * h.val + 1 * (y 1).val = 128 * h.val + (y 1).val; omega

/-! ## The context, head by head -/

/-- The number of the (slot, head) that an element of the context belongs to. -/
def stepOf (d : Dev nD) (i : S256x1024.Idx) : ℕ :=
  8 * (slotOf d ⟨(i 0).val / 64, by have : (i 0).val < 256 := (i 0).isLt; omega⟩).val + (i 1).val / 128

/-- The first `n` (slot, head)s of the context are done. -/
def CtxDone (d : Dev nD) (C : S256x1024.Idx → Elt F .f32) (n : ℕ) (f : S256x1024.Idx → Elt F .f32) : Prop :=
  ∀ i, stepOf d i < n → f i = C i

theorem ctxDone_zero (d : Dev nD) (C f : S256x1024.Idx → Elt F .f32) : CtxDone d C 0 f := fun i h => absurd h (Nat.not_lt_zero _)

theorem mem_qW (d : Dev nD) (s : Fin 4) (h : Fin 8) (i : S256x1024.Idx) :
    i ∈ (qW d s h).set ↔ (i 0).val / 64 = (blk d s).val ∧ (i 1).val / 128 = h.val := by
  rw [Rect.mem_set_unit, qOff_eq]
  constructor
  · intro H
    have a0 : 64 * (blk d s).val ≤ (i 0).val ∧ (i 0).val < 64 * (blk d s).val + 64 := H 0
    have a1 : 128 * h.val ≤ (i 1).val ∧ (i 1).val < 128 * h.val + 128 := H 1
    omega
  · rintro ⟨a0, a1⟩ a
    match a with
    | ⟨0, _⟩ => show 64 * (blk d s).val ≤ (i 0).val ∧ (i 0).val < 64 * (blk d s).val + 64; omega
    | ⟨1, _⟩ => show 128 * h.val ≤ (i 1).val ∧ (i 1).val < 128 * h.val + 128; omega

/-- One more head. -/
theorem ctxDone_write (d : Dev nD) (s : Fin 4) (h : Fin 8) (Q : S256x1024.Idx → Elt F .f32) (K V : S1x4096x8x128.Idx → Elt F .f32)
    (f : S256x1024.Idx → Elt F .f32) (hf : CtxDone d (context Q K V) (8 * s.val + h.val) f) :
    CtxDone d (context Q K V) (8 * s.val + h.val + 1)
      ((cM.access (qW d s h) : View sig .tc _ _ _).write (Elt F) f (k0_pay3 (qWin Q (blk d s) h) (kvWin K (blk d s) h) (kvWin V (blk d s) h)) Finset.univ) := by
  intro i hi
  by_cases hm : i ∈ (qW d s h).set
  · obtain ⟨y, rfl⟩ := (qW d s h).exists_idx_of_mem hm
    have e := (mem_qW d s h _).mp hm
    have hy0 : (y 0).val < 64 := (y 0).isLt
    have hy1 : (y 1).val < 128 := (y 1).isLt
    have v0 : ((qW d s h).idx y 0).val = 64 * (blk d s).val + (y 0).val := by
      show qOff d s h 0 + 1 * (y 0).val = _
      rw [qOff_eq, Nat.one_mul]; rfl
    have v1 : ((qW d s h).idx y 1).val = 128 * h.val + (y 1).val := by
      show qOff d s h 1 + 1 * (y 1).val = _
      rw [qOff_eq, Nat.one_mul]; rfl
    refine (View.write_emb_of_mem (v := (cM.access (qW d s h) : View sig .tc _ _ _)) f _ (Finset.mem_univ y)).trans ?_
    have hb : (⟨((qW d s h).idx y 0).val / 64, by have : ((qW d s h).idx y 0).val < 256 := ((qW d s h).idx y 0).isLt; omega⟩ : Fin 4) = blk d s := Fin.ext e.1
    have hh : (⟨((qW d s h).idx y 1).val / 128, by have : ((qW d s h).idx y 1).val < 1024 := ((qW d s h).idx y 1).isLt; omega⟩ : Fin 8) = h := Fin.ext e.2
    show k0_pay3 _ _ _ y = context Q K V ((qW d s h).idx y)
    unfold context
    simp only [hb, hh]
    congr 1
    rw [eq_ix2 y]
    funext a
    match a with
    | ⟨0, _⟩ => exact Fin.ext (by show (y 0).val = ((qW d s h).idx y 0).val % 64; rw [v0]; omega)
    | ⟨1, _⟩ => exact Fin.ext (by show (y 1).val = ((qW d s h).idx y 1).val % 128; rw [v1]; omega)
  · refine (View.write_of_not_mem (v := (cM.access (qW d s h) : View sig .tc _ _ _)) f _ _ ?_).trans (hf i ?_)
    · intro h'; exact hm (by rw [View.setOn_univ] at h'; exact (View.set_slice_whole cc0_scratch5 (qW d s h)) ▸ h')
    · have hne : stepOf d i ≠ 8 * s.val + h.val := by
        intro h'
        apply hm
        rw [mem_qW]
        unfold stepOf at h'
        have h1 : (i 1).val < 1024 := (i 1).isLt
        have hs : slotOf d ⟨(i 0).val / 64, by have : (i 0).val < 256 := (i 0).isLt; omega⟩ = s := Fin.ext (by omega)
        refine ⟨?_, by omega⟩
        rw [← hs, blk_slotOf]
      omega

/-- The rows that round 1 sends are done after slots 0 and 1; -/
theorem read_w23 (d : Dev nD) (C f : S256x1024.Idx → Elt F .f32) (hf : CtxDone d C 16 f) :
    cM.view.readAt (Elt F) (w23 d).toLoadRect f = cM.view.readAt (Elt F) (w23 d).toLoadRect C := by
  funext y
  refine hf ((w23 d).idx y) ?_
  have hy0 : (y 0).val < 128 := (y 0).isLt
  have hy1 : (y 1).val < 1024 := (y 1).isLt
  have v0 : ((w23 d).idx y 0).val = 64 * (blk d 0).val + (y 0).val := by
    show k0_off23 d 0 + 1 * (y 0).val = _
    rw [off23_eq', Nat.one_mul]; rfl
  have v1 : ((w23 d).idx y 1).val = (y 1).val := by
    show k0_off23 d 1 + 1 * (y 1).val = _
    rw [off23_eq', Nat.one_mul]; exact Nat.zero_add _
  have hb1 := blk_one d
  have hs : (slotOf d ⟨((w23 d).idx y 0).val / 64, by have : ((w23 d).idx y 0).val < 256 := ((w23 d).idx y 0).isLt; omega⟩).val < 2 := by
    by_cases hlt : (y 0).val < 64
    · have : (⟨((w23 d).idx y 0).val / 64, by have : ((w23 d).idx y 0).val < 256 := ((w23 d).idx y 0).isLt; omega⟩ : Fin 4) = blk d 0 := Fin.ext (by show _ / 64 = _; rw [v0]; omega)
      rw [this, slotOf_blk]; decide
    · have : (⟨((w23 d).idx y 0).val / 64, by have : ((w23 d).idx y 0).val < 256 := ((w23 d).idx y 0).isLt; omega⟩ : Fin 4) = blk d 1 := Fin.ext (by show _ / 64 = _; rw [v0]; omega)
      rw [this, slotOf_blk]; decide
  unfold stepOf
  rw [v1]
  omega

/-- a row block is done with its slot. -/
theorem step_lt (d : Dev nD) (s : Fin 4) (i : S256x1024.Idx) (h : (i 0).val / 64 = (blk d s).val) : stepOf d i < 8 * s.val + 8 := by
  have h1 : (i 1).val < 1024 := (i 1).isLt
  have : (⟨(i 0).val / 64, by have : (i 0).val < 256 := (i 0).isLt; omega⟩ : Fin 4) = blk d s := Fin.ext h
  unfold stepOf
  rw [this, slotOf_blk]
  omega

theorem read_w33 (d : Dev nD) (C f : S256x1024.Idx → Elt F .f32) (hf : CtxDone d C 24 f) :
    cM.view.readAt (Elt F) (w33 d).toLoadRect f = cM.view.readAt (Elt F) (w33 d).toLoadRect C := by
  funext y
  refine hf ((w33 d).idx y) (step_lt d 2 _ ?_)
  have hy0 : (y 0).val < 64 := (y 0).isLt
  show (k0_off33 d 0 + 1 * (y 0).val) / 64 = _
  rw [off33_eq']
  show (64 * (blk d 2).val + 1 * (y 0).val) / 64 = _
  omega

theorem read_w44 (d : Dev nD) (C f : S256x1024.Idx → Elt F .f32) (hf : CtxDone d C 32 f) :
    cM.view.readAt (Elt F) (w44 d).toLoadRect f = cM.view.readAt (Elt F) (w44 d).toLoadRect C := by
  funext y
  refine hf ((w44 d).idx y) (step_lt d 3 _ ?_)
  have hy0 : (y 0).val < 64 := (y 0).isLt
  show (k0_off44 d 0 + 1 * (y 0).val) / 64 = _
  rw [off44_eq']
  show (64 * (blk d 3).val + 1 * (y 0).val) / 64 = _
  omega

/-! ## The result's windows -/

/-- Storing a window and reading it gives what was stored. -/
theorem read_store_o (r : Rect S1x256x1024) (f : S1x256x1024.Idx → Elt F .f32) (w : r.shape.Idx → Elt F .f32) :
    oM.view.readAt (Elt F) r.toLoadRect ((oM.access r : View sig .tc _ _ _).write (Elt F) f w Finset.univ) = w :=
  View.read_write_univ (v := (oM.access r : View sig .tc _ _ _)) f w

theorem mem_w24 (d : Dev nD) (i : S1x256x1024.Idx) : i ∈ (w24 d).set ↔ (i 1).val / 64 = (blk d 0).val ∨ (i 1).val / 64 = (blk d 1).val := by
  rw [Rect.mem_set_unit, off24_eq', blk_one]
  have h0 : (i 0).val < 1 := (i 0).isLt
  have h2 : (i 2).val < 1024 := (i 2).isLt
  constructor
  · intro H
    have a1 : 64 * (blk d 0).val ≤ (i 1).val ∧ (i 1).val < 64 * (blk d 0).val + 128 := H 1
    omega
  · intro a1 a
    match a with
    | ⟨0, _⟩ => show 0 ≤ (i 0).val ∧ (i 0).val < 0 + 1; omega
    | ⟨1, _⟩ => show 64 * (blk d 0).val ≤ (i 1).val ∧ (i 1).val < 64 * (blk d 0).val + 128; omega
    | ⟨2, _⟩ => show 0 ≤ (i 2).val ∧ (i 2).val < 0 + 1024; omega
theorem mem_w34 (d : Dev nD) (i : S1x256x1024.Idx) : i ∈ (w34 d).set ↔ (i 1).val / 64 = (blk d 2).val := by
  rw [Rect.mem_set_unit, off34_eq']
  have h0 : (i 0).val < 1 := (i 0).isLt
  have h2 : (i 2).val < 1024 := (i 2).isLt
  constructor
  · intro H
    have a1 : 64 * (blk d 2).val ≤ (i 1).val ∧ (i 1).val < 64 * (blk d 2).val + 64 := H 1
    omega
  · intro a1 a
    match a with
    | ⟨0, _⟩ => show 0 ≤ (i 0).val ∧ (i 0).val < 0 + 1; omega
    | ⟨1, _⟩ => show 64 * (blk d 2).val ≤ (i 1).val ∧ (i 1).val < 64 * (blk d 2).val + 64; omega
    | ⟨2, _⟩ => show 0 ≤ (i 2).val ∧ (i 2).val < 0 + 1024; omega
theorem mem_w45 (d : Dev nD) (i : S1x256x1024.Idx) : i ∈ (w45 d).set ↔ (i 1).val / 64 = (blk d 3).val := by
  rw [Rect.mem_set_unit, off45_eq']
  have h0 : (i 0).val < 1 := (i 0).isLt
  have h2 : (i 2).val < 1024 := (i 2).isLt
  constructor
  · intro H
    have a1 : 64 * (blk d 3).val ≤ (i 1).val ∧ (i 1).val < 64 * (blk d 3).val + 64 := H 1
    omega
  · intro a1 a
    match a with
    | ⟨0, _⟩ => show 0 ≤ (i 0).val ∧ (i 0).val < 0 + 1; omega
    | ⟨1, _⟩ => show 64 * (blk d 3).val ≤ (i 1).val ∧ (i 1).val < 64 * (blk d 3).val + 64; omega
    | ⟨2, _⟩ => show 0 ≤ (i 2).val ∧ (i 2).val < 0 + 1024; omega

/-- A row block is the block of some slot. -/
theorem block_cases (d : Dev nD) (i : S1x256x1024.Idx) :
    (i 1).val / 64 = (blk d 0).val ∨ (i 1).val / 64 = (blk d 1).val ∨ (i 1).val / 64 = (blk d 2).val ∨ (i 1).val / 64 = (blk d 3).val := by
  have h1 : (i 1).val < 256 := (i 1).isLt
  have hb : blk d (slotOf d ⟨(i 1).val / 64, by omega⟩) = ⟨(i 1).val / 64, by omega⟩ := blk_slotOf d _
  have hv := congrArg Fin.val hb
  generalize slotOf d ⟨(i 1).val / 64, by omega⟩ = s at hv
  match s with
  | 0 => exact Or.inl hv.symm
  | 1 => exact Or.inr (Or.inl hv.symm)
  | 2 => exact Or.inr (Or.inr (Or.inl hv.symm))
  | 3 => exact Or.inr (Or.inr (Or.inr hv.symm))

theorem mem_access_o (r : Rect S1x256x1024) (i : S1x256x1024.Idx) : i ∈ (oM.access r : View sig .tc _ _ _).setOn Finset.univ ↔ i ∈ r.set := by
  rw [View.setOn_univ]; exact (View.set_slice_whole cc0_stg1_0 r) ▸ Iff.rfl

/-- The three windows are all of the result: what lies under them does not matter. -/
theorem out_eq (c : Dev nD) (f g : S1x256x1024.Idx → Elt F .f32) (w1 : (w45 c).shape.Idx → Elt F .f32) (w2 : (w34 c).shape.Idx → Elt F .f32)
    (w3 : (w24 c).shape.Idx → Elt F .f32) :
    (oM.access (w24 c) : View sig .tc _ _ _).write (Elt F) ((oM.access (w34 c) : View sig .tc _ _ _).write (Elt F)
        ((oM.access (w45 c) : View sig .tc _ _ _).write (Elt F) f w1 Finset.univ) w2 Finset.univ) w3 Finset.univ
      = (oM.access (w24 c) : View sig .tc _ _ _).write (Elt F) ((oM.access (w34 c) : View sig .tc _ _ _).write (Elt F)
        ((oM.access (w45 c) : View sig .tc _ _ _).write (Elt F) g w1 Finset.univ) w2 Finset.univ) w3 Finset.univ := by
  funext i
  have key : ∀ (r : Rect S1x256x1024) (f g : S1x256x1024.Idx → Elt F .f32) (w : r.shape.Idx → Elt F .f32), (i ∉ r.set → f i = g i) →
      (oM.access r : View sig .tc _ _ _).write (Elt F) f w Finset.univ i = (oM.access r : View sig .tc _ _ _).write (Elt F) g w Finset.univ i := by
    intro r f g w h
    by_cases hm : i ∈ r.set
    · obtain ⟨y, rfl⟩ := r.exists_idx_of_mem hm
      exact (View.write_emb_of_mem (v := (oM.access r : View sig .tc _ _ _)) f w (Finset.mem_univ y)).trans
        (View.write_emb_of_mem (v := (oM.access r : View sig .tc _ _ _)) g w (Finset.mem_univ y)).symm
    · rw [View.write_of_not_mem (v := (oM.access r : View sig .tc _ _ _)) f w _ (fun h' => hm ((mem_access_o r i).mp h')),
        View.write_of_not_mem (v := (oM.access r : View sig .tc _ _ _)) g w _ (fun h' => hm ((mem_access_o r i).mp h'))]
      exact h hm
  refine key _ _ _ _ fun h24 => key _ _ _ _ fun h34 => key _ _ _ _ fun h45 => ?_
  rw [mem_w24] at h24; rw [mem_w34] at h34; rw [mem_w45] at h45
  rcases block_cases c i with h | h | h | h
  · exact absurd (Or.inl h) h24
  · exact absurd (Or.inr h) h24
  · exact absurd h h34
  · exact absurd h h45

/-! ## The last receive buffer's halves -/

theorem off47_pa : ∀ d : Dev nD, k0_off47 (pa d) = k0_off47 d := by decide +kernel
theorem off48_pa : ∀ d : Dev nD, k0_off48 (pa d) = k0_off48 d := by decide +kernel
theorem halves : ∀ d : Dev nD, (k0_off47 d = ![0, 0] ∧ k0_off48 d = ![64, 0]) ∨ (k0_off47 d = ![64, 0] ∧ k0_off48 d = ![0, 0]) := by decide +kernel

theorem mem_half (o : ℕ) (off : Fin 2 → ℕ) (hoff : off = ![o, 0]) (inb : ∀ a, off a + S64x1024.size a ≤ S128x1024.size a) (i : S128x1024.Idx) :
    i ∈ (Rect.unit (s := S128x1024) off S64x1024.size inb).set ↔ o ≤ (i 0).val ∧ (i 0).val < o + 64 := by
  subst hoff
  rw [Rect.mem_set_unit]
  have h2 : (i 1).val < 1024 := (i 1).isLt
  constructor
  · intro H; exact H 0
  · intro a1 a
    match a with
    | ⟨0, _⟩ => exact a1
    | ⟨1, _⟩ => show 0 ≤ (i 1).val ∧ (i 1).val < 0 + 1024; omega

theorem halves_disjoint (d : Dev nD) : Disjoint (r4a d).view.set (r4b d).view.set := by
  rw [Finset.disjoint_left]
  intro i h1 h2
  rw [show (r4a d).view.set = _ from View.set_slice_whole _ _] at h1
  rw [show (r4b d).view.set = _ from View.set_slice_whole _ _] at h2
  rcases halves d with ⟨h, h'⟩ | ⟨h, h'⟩
  · rw [mem_half _ _ h] at h1; rw [mem_half _ _ h'] at h2; omega
  · rw [mem_half _ _ h] at h1; rw [mem_half _ _ h'] at h2; omega
theorem halves_union (d : Dev nD) : (r4a d).view.set ∪ (r4b d).view.set = (Finset.univ : Finset S128x1024.Idx) := by
  ext i
  rw [Finset.mem_union, show (r4a d).view.set = _ from View.set_slice_whole _ _, show (r4b d).view.set = _ from View.set_slice_whole _ _]
  have h0 : (i 0).val < 128 := (i 0).isLt
  simp only [Finset.mem_univ, iff_true]
  rcases halves d with ⟨h, h'⟩ | ⟨h, h'⟩
  · rw [mem_half _ _ h, mem_half _ _ h']; omega
  · rw [mem_half _ _ h, mem_half _ _ h']; omega

/-- What round 4a brings lies where the last receive buffer's contents have it; -/
theorem r4a_lands (c : Dev nD) (fd : (cc0_scratch12 : Ref sig .tc).ty.Contents (Elt F)) :
    ∀ i ∈ (r4a (pa c)).view.set, (r4a (pa c)).view.write (Elt F) fd (s3C m (pa c)) Finset.univ i = r4C m c i := by
  intro i hi
  have hn : i ∉ (r4b (pa c)).view.setOn Finset.univ := fun h => Finset.disjoint_left.mp (halves_disjoint (pa c)) hi h
  unfold r4C
  rw [View.write_of_not_mem _ _ _ hn]
  obtain ⟨x, -, rfl⟩ := Finset.mem_map.mp hi
  rw [View.write_emb_of_mem _ _ (Finset.mem_univ _), View.write_emb_of_mem _ _ (Finset.mem_univ _)]
/-- what round 4b brings too. -/
theorem r4b_lands (c : Dev nD) (fd : (cc0_scratch12 : Ref sig .tc).ty.Contents (Elt F)) :
    ∀ i ∈ (r4b (pa c)).view.set, (r4b (pa c)).view.write (Elt F) fd (s3C m (pb (pa c))) Finset.univ i = r4C m c i := by
  intro i hi
  unfold r4C
  obtain ⟨x, -, rfl⟩ := Finset.mem_map.mp hi
  rw [View.write_emb_of_mem _ _ (Finset.mem_univ _), View.write_emb_of_mem _ _ (Finset.mem_univ _)]

end Cert.KernelIdealProof

end
-- ==== Proof.KernelIdeal.Sched.lean ====
/- The protocol of the kernel between devices: who pays which semaphore of whom, what arrives with each payment, and
   what every buffer holds when it arrives. -/
module

public import proofs.«01_k».proof.Proof.KernelIdeal.Contents
public import Idealize.ShloMosaic.Lib.Pipeline.Launch
public import Idealize.ShloMosaic.Lib.Pipeline.Kit
public import Idealize.ShloMosaic.Lib.Batch
public import Idealize.ShloMosaic.Lib.ValueIdx
public import Idealize.ShloMosaic.Lib.Tactic

@[expose] public section

set_option maxRecDepth 16384

noncomputable section

namespace Cert.KernelIdealProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra: the pipeline's rounds, the devices' rounds, and counters for the local copies -/

/-- The rounds between devices. -/
abbrev UB : Type := URounds (GSem nD τ sig) Bool
/-- All user resources. -/
abbrev UU : Type := UR sig nD τ × (UB × Counters)

local notation "𝕄" => MT nD τ sig Unit (Elt F) ℕ UU ℕ

/-- The pipeline's part. -/
abbrev EP : Emb (UR sig nD τ) (MT nD τ sig Unit (Elt F) ℕ UU ℕ) := embL
/-- The part of the rounds between devices. -/
abbrev ER : Emb UB (MT nD τ sig Unit (Elt F) ℕ UU ℕ) := (Emb.inl : Emb UB (UB × Counters)).trans embR
/-- The counters' part. -/
abbrev EC : UEmb Counters (MT nD τ sig Unit (Elt F) ℕ UU ℕ) := countersEmb (U := UU)

instance ER_landsIn : (ER (F := F)).LandsIn (upEmb : UEmb _ 𝕄) := inferInstance

/-! ## The partners -/

theorem dev1_eq (c : Dev nD) : (⟨k0_dev1 c, k0_dev1_lt c⟩ : Dev nD) = pa c := by revert c; decide
theorem dev2_eq (c : Dev nD) : (⟨k0_dev2 c, k0_dev2_lt c⟩ : Dev nD) = pb c := by revert c; decide
theorem dev3_eq (c : Dev nD) : (⟨k0_dev3 c, k0_dev3_lt c⟩ : Dev nD) = pa c := by revert c; decide
theorem dev4_eq (c : Dev nD) : (⟨k0_dev4 c, k0_dev4_lt c⟩ : Dev nD) = pb c := by revert c; decide
theorem dev5_eq (c : Dev nD) : (⟨k0_dev5 c, k0_dev5_lt c⟩ : Dev nD) = pb c := by revert c; decide
theorem dev6_eq (c : Dev nD) : (⟨k0_dev6 c, k0_dev6_lt c⟩ : Dev nD) = pa c := by revert c; decide
theorem dev7_eq (c : Dev nD) : (⟨k0_dev7 c, k0_dev7_lt c⟩ : Dev nD) = pa c := by revert c; decide

/-- Whom device `c` sends its remote copy `r` to. -/
def tgt (r : Fin 5) (c : Dev nD) : Dev nD := match r with | 0 => pa c | 1 => pb c | 2 => pb c | 3 => pa c | 4 => pa c
theorem tgt_tgt (r : Fin 5) (c : Dev nD) : tgt r (tgt r c) = c := by revert r c; decide

/-! ## The cells -/

/-- The kinds of the cells of a device: its barrier (`none`), and for each remote copy its send cell (`false`) and its
    receive cell (`true`). -/
abbrev CK : Type := Option (Bool × Fin 5)

/-- The semaphore of a kind. -/
abbrev csem : CK → SemLoc sig
  | none => .reg semB
  | some (false, r) => .dma (semS r)
  | some (true, r) => .dma (semR r)

/-- The kinds, listed. -/
def allCK : List CK :=
  [none, some (false, 0), some (false, 1), some (false, 2), some (false, 3), some (false, 4),
    some (true, 0), some (true, 1), some (true, 2), some (true, 3), some (true, 4)]

/-- The kind of a semaphore, if it is one of the protocol's. -/
def kind (sm : SemLoc sig) : Option CK := allCK.find? fun k => decide (csem k = sm)

theorem kind_csem : ∀ k : CK, kind (csem k) = some k := by decide
theorem csem_injective : Function.Injective csem := fun a b h => by
  have := congrArg kind h; rw [kind_csem, kind_csem] at this; exact Option.some.inj this

/-- The cell of kind `k` of device `c`. -/
abbrev kcell (ck : Dev nD × CK) : GSem nD τ sig := ((ck.1 : Thread nD τ), csem ck.2)
abbrev barCell (c : Dev nD) : GSem nD τ sig := kcell (c, none)
abbrev sendCell (r : Fin 5) (c : Dev nD) : GSem nD τ sig := kcell (c, some (false, r))
abbrev recvCell (r : Fin 5) (c : Dev nD) : GSem nD τ sig := kcell (c, some (true, r))

/-- What a remote copy's cells are credited. -/
def credit (r : Fin 5) : ℕ := match r with
  | 0 => r1M.view.dmaCredit
  | 1 => r2M.view.dmaCredit
  | 2 => r3M.view.dmaCredit
  | 3 => (r4a 0).view.dmaCredit
  | 4 => (r4b 0).view.dmaCredit
theorem credit_pos : ∀ r, 0 < credit r
  | 0 => View.dmaCredit_pos _ (by decide)
  | 1 => View.dmaCredit_pos _ (by decide)
  | 2 => View.dmaCredit_pos _ (by decide)
  | 3 => View.dmaCredit_pos _ (by decide)
  | 4 => View.dmaCredit_pos _ (by decide)
theorem credit_s1 : s1M.view.dmaCredit = credit 0 := by decide
theorem credit_s2 : s2M.view.dmaCredit = credit 1 := by decide
theorem credit_s3 : s3M.view.dmaCredit = credit 2 := by decide
theorem credit_s3' : s3M.view.dmaCredit = credit 3 := by decide
theorem credit_r3 : r3M.view.dmaCredit = credit 4 := by decide

theorem credit_a : ∀ c, (r4a c).view.dmaCredit = credit 3 := by decide
theorem credit_b : ∀ c, (r4b c).view.dmaCredit = credit 4 := by decide

/-! ## What each payment carries -/

section Schedule
variable (m : (ℓ : Loc nD τ sig) → Buf (Elt F) ℓ)

/-- The whole buffer `b` of device `c` holds `f`. -/
abbrev own (c : Dev nD) (b : Ref sig .tc) (f : Buf (Elt F) ((c : Thread nD τ).loc b)) : sProp 𝕄 :=
  (((c : Thread nD τ).loc b) ↦{fullShare} f)
/-- The whole buffer `b` of device `c`, holding anything. -/
abbrev ownAny (c : Dev nD) (b : Ref sig .tc) : sProp 𝕄 :=
  iprop(∃ f : Buf (Elt F) ((c : Thread nD τ).loc b), (((c : Thread nD τ).loc b) ↦{fullShare} f))
/-- Part of device `c`'s last receive buffer. -/
abbrev r4At (c : Dev nD) (S : Finset S128x1024.Idx) (f : Buf (Elt F) ((c : Thread nD τ).loc cc0_scratch12)) : sProp 𝕄 :=
  (((c : Thread nD τ).loc cc0_scratch12) ↦[S]{fullShare} f)

/-- What a payment hands over. The barrier: partner `pa` (duty `false`) lends its receive buffers of rounds 1 and 4,
    partner `pb` (duty `true`) those of rounds 2 and 3. A receive cell: the filled receive buffer. A send cell: the
    source, back (the send buffer of rounds 3 and 4a is read by two copies, half a share each). -/
def pay (c : Dev nD) : CK → Bool → sProp 𝕄
  | none, false => iprop(ownAny (pa c) cc0_scratch9 ∗ (∃ f, r4At (pa c) (r4a c).view.set f) ∗ (∃ f, r4At (pa c) (r4b c).view.set f))
  | none, true => iprop(ownAny (pb c) cc0_scratch10 ∗ ownAny (pb c) cc0_scratch11)
  | some (true, 0), _ => own c cc0_scratch9 (s1C m (pa c))
  | some (true, 1), _ => own c cc0_scratch10 (s2C m (pb c))
  | some (true, 2), _ => own c cc0_scratch11 (s3C m (pb c))
  | some (true, 3), _ => r4At c (r4a (pa c)).view.set (r4C m c)
  | some (true, 4), _ => r4At c (r4b (pa c)).view.set (r4C m c)
  | some (false, 0), _ => own c cc0_scratch6 (s1C m c)
  | some (false, 1), _ => own c cc0_scratch7 (s2C m c)
  | some (false, 2), _ => (((c : Thread nD τ).loc cc0_scratch8) ↦{fullShare.left} s3C m c)
  | some (false, 3), _ => (((c : Thread nD τ).loc cc0_scratch8) ↦{fullShare.right} s3C m c)
  | some (false, 4), _ => own c cc0_scratch11 (s3C m (pb c))

instance pay_storable (c : Dev nD) (k : CK) (d : Bool) : BI.Storable (upEmb : UEmb _ 𝕄) (pay m c k d) := by
  rcases k with _ | ⟨_ | _, r⟩
  · cases d <;> (unfold pay; infer_instance)
  · match r with
    | 0 => unfold pay; infer_instance
    | 1 => unfold pay; infer_instance
    | 2 => unfold pay; infer_instance
    | 3 => unfold pay; infer_instance
    | 4 => unfold pay; infer_instance
  · match r with
    | 0 => unfold pay; infer_instance
    | 1 => unfold pay; infer_instance
    | 2 => unfold pay; infer_instance
    | 3 => unfold pay; infer_instance
    | 4 => unfold pay; infer_instance

/-- The units of one payment to a cell of a kind. -/
def units : CK → ℕ
  | none => 1
  | some (_, r) => credit r
theorem units_pos : ∀ k, 0 < units k
  | none => Nat.one_pos
  | some (_, r) => credit_pos r

/-- The duties of a kind: a barrier cell is paid by both partners, any other cell once. -/
def dutiesK : CK → Finset Bool
  | none => Finset.univ
  | some _ => {false}

/-- The schedule: one round. -/
def sched : Rounds.Schedule (GSem nD τ sig) Bool 𝕄 where
  duties g r := if r = 0 ∧ g.1.2 = .tc then (match kind g.2 with | some k => dutiesK k | none => ∅) else ∅
  unitless _ := False
  amount g _ _ := match kind g.2 with | some k => units k | none => 1
  payload g _ d := match kind g.2 with | some k => pay m g.1.1 k d | none => iprop(emp)
  amount_pos g _ _ _ := by
    show 0 < (match kind g.2 with | some k => units k | none => 1)
    split
    · exact units_pos _
    · exact Nat.one_pos

instance sched_storable (g : GSem nD τ sig) (r : ℕ) (d : Bool) : BI.Storable (upEmb : UEmb _ 𝕄) ((sched m).payload g r d) := by
  show BI.Storable upEmb (match kind g.2 with | some k => pay m g.1.1 k d | none => iprop(emp))
  split <;> infer_instance

theorem duties_eq (c : Dev nD) (k : CK) : (sched (F := F) m).duties (kcell (c, k)) 0 = dutiesK k := by
  show (if (0 : ℕ) = 0 ∧ (Proc.tc : Proc τ) = .tc then (match kind (csem k) with | some k => dutiesK k | none => ∅) else ∅) = _
  rw [if_pos ⟨rfl, rfl⟩, kind_csem]
theorem duties_later (g : GSem nD τ sig) : ∀ r, 1 ≤ r → (sched (F := F) m).duties g r = ∅ :=
  fun r hr => if_neg fun h => by omega
theorem amount_eq (c : Dev nD) (k : CK) (r : ℕ) (d : Bool) : (sched (F := F) m).amount (kcell (c, k)) r d = units k := by
  show (match kind (csem k) with | some k => units k | none => 1) = _
  rw [kind_csem]
theorem payload_eq (c : Dev nD) (k : CK) (r : ℕ) (d : Bool) : (sched (F := F) m).payload (kcell (c, k)) r d = pay m c k d := by
  show (match kind (csem k) with | some k => pay m c k d | none => iprop(emp)) = _
  rw [kind_csem]
theorem expect_bar (c : Dev nD) : (sched (F := F) m).expect (barCell c) 0 = 2 := by
  unfold Schedule.expect Schedule.amountOf
  rw [duties_eq, Finset.sum_congr rfl fun d _ => amount_eq m c none 0 d]; rfl
theorem expect_dma (c : Dev nD) (b : Bool) (r : Fin 5) : (sched (F := F) m).expect (kcell (c, some (b, r))) 0 = credit r := by
  unfold Schedule.expect Schedule.amountOf
  rw [duties_eq]; unfold dutiesK; rw [Finset.sum_singleton, amount_eq]; rfl

/-- What the barrier's wait brings. -/
theorem rest_bar (c : Dev nD) : bigSep ((sched (F := F) m).duties (barCell c) 0 \ ∅) (fun d => (sched (F := F) m).payload (barCell c) 0 d)
    = iprop(pay m c none false ∗ pay m c none true) := by
  rw [Finset.sdiff_empty, duties_eq]; unfold dutiesK
  rw [bigSep_univ_eq_bigSepL [false, true] (by decide) (by decide), bigSepL_cons_cons, bigSepL_singleton, payload_eq, payload_eq]
  rfl
/-- What a copy's wait brings. -/
theorem rest_dma (c : Dev nD) (b : Bool) (r : Fin 5) :
    bigSep ((sched (F := F) m).duties (kcell (c, some (b, r))) 0 \ ∅) (fun d => (sched (F := F) m).payload (kcell (c, some (b, r))) 0 d)
      = pay m c (some (b, r)) false := by
  rw [Finset.sdiff_empty, duties_eq]; unfold dutiesK
  rw [bigSep_singleton, payload_eq]

/-! ## The invariants and marks every device knows -/

/-- Every cell's invariant, under the names `K`, and that every cell has reached round 0. -/
def records (K : Dev nD × CK → ℕ) : sProp 𝕄 :=
  iprop(bigSep Finset.univ (fun ck => cellInv ER (sched m) (K ck) (kcell ck)) ∗ bigSep Finset.univ (fun ck => reached ER (kcell ck) 0))

instance records_persistent (K : Dev nD × CK → ℕ) : BI.Persistent (records m K) := by unfold records; infer_instance

theorem inv_at (K : Dev nD × CK → ℕ) (c : Dev nD) (k : CK) : records m K ⊢ cellInv ER (sched m) (K (c, k)) (kcell (c, k)) := by
  unfold records
  exact (BI.Entails.trans BI.sep_and BI.and_elimL).trans (bigSep_elim (Finset.mem_univ (c, k)))
theorem reached_at (K : Dev nD × CK → ℕ) (c : Dev nD) (k : CK) : records m K ⊢ reached ER (kcell (c, k)) 0 := by
  unfold records
  exact (BI.Entails.trans BI.sep_and BI.and_elimR).trans (bigSep_elim (Finset.mem_univ (c, k)) (Φ := fun ck : Dev nD × CK => (reached ER (kcell ck) 0 : sProp 𝕄)))

end Schedule

/-! ## What a device owes, and the levels -/

/-- The cells a device pays, in the order in which it pays them. -/
def payments (c : Dev nD) : List (Dev nD × CK) :=
  [(pa c, none), (pb c, none), (pa c, some (true, 0)), (pb c, some (true, 1)), (pb c, some (true, 2)), (pa c, some (true, 3)), (pa c, some (true, 4))]

/-- The tally of a list of payments, the first one outermost. -/
def owedL : List (Dev nD × CK) → CellTallies nD τ sig Unit
  | [] => 0
  | p :: l => owedL l + tallyAt (kcell p) () (units p.2)

/-- What device `c` still owes after its first `n` payments. -/
abbrev owed (c : Dev nD) (n : ℕ) : CellTallies nD τ sig Unit := owedL ((payments c).drop n)

/-- The levels: waits for local copies and send cells at 0, then the barrier, then the receive cells by round. -/
def slev (sm : SemLoc sig) : ℕ := match kind sm with
  | some none => 1
  | some (some (true, 0)) => 2
  | some (some (true, 1)) => 3
  | some (some (true, 2)) => 4
  | some (some (true, _)) => 5
  | _ => 0

def L (g : GSem nD τ sig) : Finset Unit := if g.1.2 = .tc then {()} else ∅
def lv (g : GSem nD τ sig) (_ : Unit) : ℕ := slev g.2

theorem L_of_ne (g : GSem nD τ sig) (h : g.1.2 ≠ .tc) : L g = ∅ := if_neg h
theorem L_tc (c : Dev nD) (sm : SemLoc sig) : L ((c : Thread nD τ), sm) = {()} := if_pos rfl

theorem owedL_pos {l : List (Dev nD × CK)} {g : GSem nD τ sig} {u : Unit} (h : 0 < owedL l g u) : ∃ p ∈ l, g = kcell p := by
  induction l with
  | nil => exact absurd h (Nat.lt_irrefl 0)
  | cons p l ih =>
    unfold owedL at h
    rw [Pi.add_apply, Finsupp.add_apply, tallyAt_apply] at h
    by_cases hg : g = kcell p
    · exact ⟨p, List.mem_cons_self, hg⟩
    · rw [if_neg fun h' => hg h'.1, Nat.add_zero] at h
      obtain ⟨q, hq, e⟩ := ih h
      exact ⟨q, List.mem_cons_of_mem _ hq, e⟩

/-- A wait at level `n` may be made while only cells of higher levels are owed. -/
theorem mayWait (c : Dev nD) (sm : SemLoc sig) (l : List (Dev nD × CK)) (n : ℕ) (hn : slev sm = n)
    (h : ((l.map Prod.snd).all fun k => decide (n < slev (csem k))) = true) :
    (levAts L lv : sProp 𝕄) ⊢ MayWait (c : Thread nD τ) sm () (owedL l) :=
  MayOwe.of_cut (L := L) (lev := lv) n (fun p hp => by rw [Finset.mem_singleton.mp hp, L_tc]; exact Finset.mem_singleton_self _)
    (fun g u hg => by obtain ⟨p, -, rfl⟩ := owedL_pos hg; exact Finset.mem_singleton_self _)
    (fun p hp => by rw [Finset.mem_singleton.mp hp]; exact hn.le)
    (fun g u hg => by
      obtain ⟨p, hp, rfl⟩ := owedL_pos hg
      have := List.all_eq_true.mp h p.2 (List.mem_map_of_mem hp)
      exact of_decide_eq_true this)

theorem slev_W : slev (.dma semW) = 0 := by decide
theorem slev_O : slev (.dma semO) = 0 := by decide
theorem slev_KV : ∀ s, slev (.dma (semKV s)) = 0 := by decide
theorem slev_S : ∀ r, slev (.dma (semS r)) = 0 := by decide

end Cert.KernelIdealProof

end
-- ==== Proof.KernelIdeal.Gather.lean ====
/- The gather of keys and values: sixteen tiles of keys and sixteen of values per slot, all thirty-two copies of a slot on one
   semaphore. Starting a slot takes its part of the gathered buffers; waiting for it brings the slot back, gathered. -/
module

public import proofs.«01_k».proof.Proof.KernelIdeal.Sched

@[expose] public section

set_option maxRecDepth 16384

noncomputable section

namespace Cert.KernelIdealProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ
local notation "ℙ" => Prog (TpuEff nD τ sig (Elt F) Λ₀ Proc.tc)

abbrev 𝒱₀ : Variants := Variants.none

/-- Device `c` may run `p` and end in `Q`. -/
abbrev runs {α : Type} (c : Dev nD) (p : ℙ α) (Q : α → sProp 𝕄) : sProp 𝕄 :=
  wp frame (wpE (defs₀ (F := F)) 𝒱₀ (c : Thread nD τ) none) Set.univ p Q

/-- A run over a list keeps what each of its steps keeps. -/
theorem runs_each {A : Type} (c : Dev nD) (l : List A) (f : A → ℙ PUnit) (I : ℕ → sProp 𝕄) (Kt : PUnit → sProp 𝕄)
    (hstep : ∀ (i : ℕ) (h : i < l.length) (Kt : PUnit → sProp 𝕄), iprop(I i ∗ (I (i + 1) -∗ Kt ⟨⟩)) ⊢ runs c (f l[i]) Kt) :
    iprop(I 0 ∗ (I l.length -∗ Kt ⟨⟩)) ⊢ runs c (each l f) Kt := by
  induction l generalizing I with
  | nil =>
    show _ ⊢ wp frame _ Set.univ (Prog.ret ⟨⟩) Kt
    rw [wp_ret]
    iintro ⟨H, Hk⟩
    imodintro
    iapply Hk; iexact H
  | cons a l ih =>
    show _ ⊢ wp frame _ Set.univ (f a >>= fun _ => each l f) Kt
    rw [wp_bind]
    refine BIBase.Entails.trans ?_ (hstep 0 (Nat.zero_lt_succ _) _)
    iintro ⟨H, Hk⟩
    isplitl [H]; · iexact H
    iintro H
    iapply (ih (fun i => I (i + 1)) fun i h Kt => hstep (i + 1) (Nat.succ_lt_succ h) Kt)
    isplitl [H]; · iexact H
    iexact Hk

/-- Device `c` holds some share of all of `b`, which holds `f`. -/
abbrev arr (c : Dev nD) (b : Ref sig .tc) (f : Buf (Elt F) ((c : Thread nD τ).loc b)) : sProp 𝕄 :=
  iprop(∃ q, (((c : Thread nD τ).loc b) ↦{q} f))

/-- A share of a part can be split off. -/
theorem arr_take (c : Dev nD) (b : Ref sig .tc) (f : Buf (Elt F) ((c : Thread nD τ).loc b)) (S : Finset (Idx ((c : Thread nD τ).loc b))) :
    arr (F := F) c b f ⊢ iprop((∃ q, (((c : Thread nD τ).loc b) ↦[S]{q} f)) ∗ arr c b f) := by
  iintro ⟨%q, H⟩
  ihave H2 := (pointsTo_share (PosShare.mem_left_op_right q)).1 $$ H
  icases H2 with ⟨Hl, Hr⟩
  ihave Hl2 := (pointsTo_split_subset (Finset.subset_univ S)).1 $$ Hl
  icases Hl2 with ⟨Hl, -⟩
  isplitl [Hl]; · iexists q.left; iexact Hl
  iexists q.right; iexact Hr

section Slot
variable (m : (ℓ : Loc nD τ sig) → Buf (Elt F) ℓ)

/-- A tile of the gathered keys holds `f`; -/
abbrev tileK (c : Dev nD) (s : Fin 4) (t : Fin 16) (f : Buf (Elt F) ((c : Thread nD τ).loc cc0_scratch2)) : sProp 𝕄 :=
  (((c : Thread nD τ).loc cc0_scratch2) ↦[tileSet s t]{fullShare} f)
/-- of the gathered values. -/
abbrev tileV (c : Dev nD) (s : Fin 4) (t : Fin 16) (f : Buf (Elt F) ((c : Thread nD τ).loc cc0_scratch3)) : sProp 𝕄 :=
  (((c : Thread nD τ).loc cc0_scratch3) ↦[tileSet s t]{fullShare} f)

/-- What the copies of a slot deliver, in the order in which they are started: keys and values in turn. -/
def landed (c : Dev nD) (s : Fin 4) (j : Fin 32) : sProp 𝕄 :=
  if j.val % 2 = 0 then tileK c s ⟨j.val / 2, by omega⟩ (gathered c (kA m c)) else tileV c s ⟨j.val / 2, by omega⟩ (gathered c (vA m c))

instance landed_storable (c : Dev nD) (s : Fin 4) (j : Fin 32) : BI.Storable (upEmb : UEmb _ 𝕄) (landed m c s j) := by
  unfold landed; split <;> infer_instance

theorem landed_k (c : Dev nD) (s : Fin 4) (t : Fin 16) (h : 2 * t.val < 32) : landed m c s ⟨2 * t.val, h⟩ = tileK c s t (gathered c (kA m c)) := by
  unfold landed
  rw [if_pos (by show 2 * t.val % 2 = 0; omega)]
  have : (⟨2 * t.val / 2, by omega⟩ : Fin 16) = t := Fin.ext (by show 2 * t.val / 2 = t.val; omega)
  rw [this]
theorem landed_v (c : Dev nD) (s : Fin 4) (t : Fin 16) (h : 2 * t.val + 1 < 32) : landed m c s ⟨2 * t.val + 1, h⟩ = tileV c s t (gathered c (vA m c)) := by
  unfold landed
  rw [if_neg (by show ¬ (2 * t.val + 1) % 2 = 0; omega)]
  have : (⟨(2 * t.val + 1) / 2, by omega⟩ : Fin 16) = t := Fin.ext (by show (2 * t.val + 1) / 2 = t.val; omega)
  rw [this]

/-- The units of one tile's copy. -/
def tileN : ℕ := (dstT kM 0 0).view.dmaCredit
theorem tileN_pos : 0 < tileN := View.dmaCredit_pos _ (by decide)
theorem tileN_k (s : Fin 4) (t : Fin 16) : (dstT kM s t).view.dmaCredit = tileN := by revert s t; decide
theorem tileN_v (s : Fin 4) (t : Fin 16) : (dstT vM s t).view.dmaCredit = tileN := by revert s t; decide

/-- The copies of slot `s`, `n` of them started, the waits having taken `u` units. -/
abbrev flying (c : Dev nD) (s : Fin 4) (n u : ℕ) : sProp 𝕄 :=
  Transfers.Batch EC (c : Thread nD τ) (.dma (semKV s)) () tileN (landed m c s) n u

/-- The parts of the gathered buffers that a tile fills, holding anything. -/
abbrev tilesAny (c : Dev nD) (s : Fin 4) (t : Fin 16) : sProp 𝕄 := iprop((∃ f, tileK c s t f) ∗ (∃ f, tileV c s t f))

/-- Between the starts of a slot's tiles. -/
def starting (c : Dev nD) (s : Fin 4) (n : ℕ) : sProp 𝕄 :=
  iprop(arr c main_arg2 (kA m c) ∗ arr c main_arg3 (vA m c) ∗ flying m c s (2 * n) 0 ∗ bigSep (Transfers.pending n) (tilesAny c s))

theorem tiles_getElem : ∀ (i : ℕ) (h : i < tiles.length), tiles[i] = (⟨i, h⟩ : Fin 16) :=
  fun i h => (by decide : ∀ j : Fin 16, tiles[j.val]'j.isLt = j) ⟨i, h⟩

theorem start_k (c : Dev nD) (s : Fin 4) (t : Fin 16) (Kt : PUnit → sProp 𝕄) :
    iprop((arr c main_arg2 (kA m c) ∗ flying m c s (2 * t.val) 0 ∗ (∃ f, tileK c s t f))
        ∗ ((arr c main_arg2 (kA m c) ∗ flying m c s (2 * t.val + 1) 0) -∗ Kt ⟨⟩))
      ⊢ runs c (startT kH kM c s t) Kt := by
  unfold startT
  simp only [Prog.lift]
  iintro ⟨⟨HA, HB, ⟨%fd, Hd⟩⟩, Hk⟩
  ihave HA2 := arr_take c main_arg2 (kA m c) (srcT kH c s t).view.set $$ HA
  icases HA2 with ⟨⟨%q, Hs⟩, HA⟩
  iapply (Transfers.wp_dmaBatch EC 𝒱₀ (c : Thread nD τ) none (src := srcT kH c s t) (dst := dstT kM s t) (q := q) (fs := kA m c) (Sd := tileSet s t) (fd := fd)
      (sm := .dma (semKV s)) (D := landed m c s) () tileN (tileN_k s t) (by rw [dstT_set_k]) (by have := t.isLt; omega : 2 * t.val < 32) (Nat.zero_le _) ?_) $$ [HB Hs Hd]
  · rw [landed_k]
    iintro ⟨H, -⟩
    iapply (Entails.of_eq (pointsTo_congr (fun i hi => tile_lands c s t (kA m c) fd i (by rw [dstT_set_k]; exact hi))))
    iexact H
  · isplitl [Hs]; · iexact Hs
    isplitl [Hd]; · iexact Hd
    iexact HB
  iintro HB
  rw [wp_ret]; imodintro
  iapply Hk
  isplitl [HA]; · iexact HA
  iexact HB

theorem start_v (c : Dev nD) (s : Fin 4) (t : Fin 16) (Kt : PUnit → sProp 𝕄) :
    iprop((arr c main_arg3 (vA m c) ∗ flying m c s (2 * t.val + 1) 0 ∗ (∃ f, tileV c s t f))
        ∗ ((arr c main_arg3 (vA m c) ∗ flying m c s (2 * t.val + 2) 0) -∗ Kt ⟨⟩))
      ⊢ runs c (startT vH vM c s t) Kt := by
  unfold startT
  simp only [Prog.lift]
  iintro ⟨⟨HA, HB, ⟨%fd, Hd⟩⟩, Hk⟩
  ihave HA2 := arr_take c main_arg3 (vA m c) (srcT vH c s t).view.set $$ HA
  icases HA2 with ⟨⟨%q, Hs⟩, HA⟩
  iapply (Transfers.wp_dmaBatch EC 𝒱₀ (c : Thread nD τ) none (src := srcT vH c s t) (dst := dstT vM s t) (q := q) (fs := vA m c) (Sd := tileSet s t) (fd := fd)
      (sm := .dma (semKV s)) (D := landed m c s) () tileN (tileN_v s t) (by rw [dstT_set_v]) (by have := t.isLt; omega : 2 * t.val + 1 < 32) (Nat.zero_le _) ?_) $$ [HB Hs Hd]
  · rw [landed_v]
    iintro ⟨H, -⟩
    iapply (Entails.of_eq (pointsTo_congr (fun i hi => tile_lands_v c s t (vA m c) fd i (by rw [dstT_set_v]; exact hi))))
    iexact H
  · isplitl [Hs]; · iexact Hs
    isplitl [Hd]; · iexact Hd
    iexact HB
  iintro HB
  rw [wp_ret]; imodintro
  iapply Hk
  isplitl [HA]; · iexact HA
  iexact HB

/-- All copies of a slot start. -/
theorem runs_startSlot (c : Dev nD) (s : Fin 4) (Kt : PUnit → sProp 𝕄) :
    iprop((arr c main_arg2 (kA m c) ∗ arr c main_arg3 (vA m c) ∗ flying m c s 0 0 ∗ bigSep Finset.univ (tilesAny c s))
        ∗ ((arr c main_arg2 (kA m c) ∗ arr c main_arg3 (vA m c) ∗ flying m c s 32 0) -∗ Kt ⟨⟩))
      ⊢ runs c (startSlot c s) Kt := by
  unfold startSlot
  refine BIBase.Entails.trans ?_ (runs_each c tiles _ (starting m c s) Kt ?_)
  · unfold starting
    iintro ⟨⟨H1, H2, H3, H4⟩, Hk⟩
    isplitl [H1 H2 H3 H4]
    · isplitl [H1]; · iexact H1
      isplitl [H2]; · iexact H2
      isplitl [H3]; · iexact H3
      rw [Transfers.pending_zero]; iexact H4
    iintro ⟨H1, H2, H3, -⟩
    iapply Hk
    isplitl [H1]; · iexact H1
    isplitl [H2]; · iexact H2
    iexact H3
  · intro i h Kt
    have hi : i < 16 := h
    rw [tiles_getElem i h]
    show _ ⊢ wp frame _ Set.univ (startT kH kM c s ⟨i, hi⟩ >>= fun _ => startT vH vM c s ⟨i, hi⟩) Kt
    rw [wp_bind]
    unfold starting
    rw [Transfers.bigSep_pending_step (tilesAny c s) i hi]
    iintro ⟨⟨H1, H2, H3, ⟨HK, HV⟩, H4⟩, Hk⟩
    iapply (start_k m c s ⟨i, hi⟩)
    isplitl [H1 H3 HK]
    · isplitl [H1]; · iexact H1
      isplitl [H3]; · iexact H3
      iexact HK
    iintro ⟨H1, H3⟩
    iapply (start_v m c s ⟨i, hi⟩)
    isplitl [H2 H3 HV]
    · isplitl [H2]; · iexact H2
      isplitl [H3]; · iexact H3
      iexact HV
    iintro ⟨H2, H3⟩
    iapply Hk
    isplitl [H1]; · iexact H1
    isplitl [H2]; · iexact H2
    isplitl [H3]; · iexact H3
    iexact H4

/-- A slot of the gathered buffers holds its keys and values. -/
def slotDone (c : Dev nD) (s : Fin 4) : sProp 𝕄 :=
  iprop((((c : Thread nD τ).loc cc0_scratch2) ↦[slotSet s]{fullShare} (gathered c (kA m c)))
    ∗ (((c : Thread nD τ).loc cc0_scratch3) ↦[slotSet s]{fullShare} (gathered c (vA m c))))

/-- All deliveries of a slot are the slot. -/
theorem slot_of_landed (c : Dev nD) (s : Fin 4) : bigSep Finset.univ (landed m c s) ⊢ slotDone m c s := by
  have e : ∀ p : Fin 16 × Fin 2, landed m c s ((finProdFinEquiv : Fin 16 × Fin 2 ≃ Fin 32) p)
      = if p.2 = 0 then tileK c s p.1 (gathered c (kA m c)) else tileV c s p.1 (gathered c (vA m c)) := by
    rintro ⟨t, b⟩
    match b with
    | 0 =>
      have : (finProdFinEquiv : Fin 16 × Fin 2 ≃ Fin 32) (t, 0) = ⟨2 * t.val, by omega⟩ := Fin.ext (by show 0 + 2 * t.val = 2 * t.val; omega)
      rw [this, landed_k]; rfl
    | 1 =>
      have : (finProdFinEquiv : Fin 16 × Fin 2 ≃ Fin 32) (t, 1) = ⟨2 * t.val + 1, by omega⟩ := Fin.ext (by show 1 + 2 * t.val = 2 * t.val + 1; omega)
      rw [this, landed_v]; rfl
  rw [bigSep_univ_equiv (finProdFinEquiv : Fin 16 × Fin 2 ≃ Fin 32), bigSep_univ_prod]
  have e2 : (fun t : Fin 16 => bigSep Finset.univ (fun b : Fin 2 => landed m c s ((finProdFinEquiv : Fin 16 × Fin 2 ≃ Fin 32) (t, b))))
      = fun t => iprop(tileK c s t (gathered c (kA m c)) ∗ tileV c s t (gathered c (vA m c))) := by
    funext t
    rw [bigSep_fin_two, e, e]; rfl
  rw [e2]
  unfold slotDone
  rw [slotSet_tiles, pointsTo_biUnion _ _ (tileSet_disjoint s), pointsTo_biUnion _ _ (tileSet_disjoint s)]
  exact Entails.of_eq (bigSep_sep _ _ _)

/-- Between the waits of a slot. -/
def waiting (c : Dev nD) (s : Fin 4) (l : List (Dev nD × CK)) (n : ℕ) : sProp 𝕄 :=
  iprop((if n < 16 then flying m c s 32 (2 * n * tileN) else iprop(bigSep Finset.univ (landed m c s) ∗ semVal ((c : Thread nD τ), .dma (semKV s)) 0))
    ∗ levAts L lv ∗ ∃ W, owes (c : Thread nD τ) (owedL l) W)

/-- All waits of a slot. -/
theorem runs_waitSlot (c : Dev nD) (s : Fin 4) (l : List (Dev nD × CK)) (hl : ((l.map Prod.snd).all fun k => decide (0 < slev (csem k))) = true)
    (Kt : PUnit → sProp 𝕄) :
    iprop((flying m c s 32 0 ∗ levAts L lv ∗ ∃ W, owes (c : Thread nD τ) (owedL l) W)
        ∗ ((slotDone m c s ∗ semVal ((c : Thread nD τ), .dma (semKV s)) 0 ∗ ∃ W, owes (c : Thread nD τ) (owedL l) W) -∗ Kt ⟨⟩))
      ⊢ runs c (waitSlot c s) Kt := by
  unfold waitSlot
  refine BIBase.Entails.trans ?_ (runs_each c tiles _ (waiting m c s l) Kt ?_)
  · unfold waiting
    rw [if_pos (by decide), if_neg (by decide), Nat.mul_zero, Nat.zero_mul]
    iintro ⟨⟨H1, H2, H3⟩, Hk⟩
    isplitl [H1 H2 H3]
    · isplitl [H1]; · iexact H1
      isplitl [H2]; · iexact H2
      iexact H3
    iintro ⟨⟨H1, H2⟩, -, H3⟩
    iapply Hk
    isplitl [H1]; · iapply (slot_of_landed m c s); iexact H1
    isplitl [H2]; · iexact H2
    iexact H3
  · intro i h Kt
    have hi : i < 16 := h
    rw [tiles_getElem i h]
    show _ ⊢ wp frame _ Set.univ (waitT kH kM c s ⟨i, hi⟩ >>= fun _ => waitT vH vM c s ⟨i, hi⟩) Kt
    unfold waiting waitT
    rw [if_pos hi]
    simp only [Prog.lift, Prog.bind_op, Prog.bind_ret]
    have hpos := tileN_pos
    iintro ⟨⟨HB, #Hlev, ⟨%W, HO⟩⟩, Hk⟩
    iapply (Transfers.wp_waitBatchO EC 𝒱₀ (c : Thread nD τ) none () (tileN_k s ⟨i, hi⟩) (by nlinarith : 2 * i * tileN + tileN < tileN * 32)) $$ [HB HO]
    · isplitl [HB]; · iexact HB
      isplitl [HO]; · iexact HO
      iapply (mayWait c _ l 0 (slev_KV s) hl); iexact Hlev
    iintro ⟨HB, HO⟩
    by_cases hlast : i + 1 < 16
    · rw [if_pos hlast]
      iapply (Transfers.wp_waitBatchO EC 𝒱₀ (c : Thread nD τ) none () (tileN_v s ⟨i, hi⟩) (by nlinarith : 2 * i * tileN + tileN + tileN < tileN * 32)) $$ [HB HO]
      · isplitl [HB]; · iexact HB
        isplitl [HO]; · iexact HO
        iapply (mayWait c _ l 0 (slev_KV s) hl); iexact Hlev
      iintro ⟨HB, HO⟩
      rw [wp_ret]; imodintro
      iapply Hk
      isplitl [HB]
      · rw [show 2 * (i + 1) * tileN = 2 * i * tileN + tileN + tileN by ring]; iexact HB
      isplitr; · iexact Hlev
      iexists _; iexact HO
    · rw [if_neg hlast]
      have hi15 : i = 15 := by omega
      iapply (Transfers.wp_waitBatchLastO EC 𝒱₀ (c : Thread nD τ) none () (tileN_v s ⟨i, hi⟩) hpos (by subst hi15; ring : 2 * i * tileN + tileN + tileN = tileN * 32)) $$ [HB HO]
      · isplitl [HB]; · iexact HB
        isplitl [HO]; · iexact HO
        iapply (mayWait c _ l 0 (slev_KV s) hl); iexact Hlev
      iintro ⟨HD, Hz, HO⟩
      rw [wp_ret]; imodintro
      iapply Hk
      isplitl [HD Hz]
      · isplitl [HD]; · iexact HD
        iexact Hz
      isplitr; · iexact Hlev
      iexists _; iexact HO

end Slot

end Cert.KernelIdealProof

end
-- ==== Proof.KernelIdeal.Local.lean ====
/- The parts of the body that one device does alone: the copies of its weights, the scaled queries, and the attention of the
   eight heads of a slot. -/
module

public import proofs.«01_k».proof.Proof.KernelIdeal.Gather

@[expose] public section

set_option maxRecDepth 16384

noncomputable section

namespace Cert.KernelIdealProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ
local notation "ℙ" => Prog (TpuEff nD τ sig (Elt F) Λ₀ Proc.tc)

variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

theorem bigSep_four (Φ : Fin 4 → sProp 𝕄) : bigSep Finset.univ Φ = iprop(Φ 0 ∗ Φ 1 ∗ Φ 2 ∗ Φ 3) := by
  rw [bigSep_univ_eq_bigSepL ([0, 1, 2, 3] : List (Fin 4)) (by decide) (by decide), bigSepL_cons_cons, bigSepL_cons_cons, bigSepL_cons_cons, bigSepL_singleton]
  rfl
theorem bigSep_one (P : sProp 𝕄) : bigSep (Finset.univ : Finset (Fin 1)) (fun _ => P) = P := by
  rw [Finset.univ_unique, bigSep_singleton]

/-! ## The heads of a slot -/

/-- The context with its first `n` (slot, head)s done. -/
def ctxAt (c : Dev nD) (n : ℕ) : sProp 𝕄 := iprop(∃ f, ⌜CtxDone c (ctxC m c) n f⌝ ∗ own c cc0_scratch5 f)

/-- Between the heads of slot `s`. -/
def heading (c : Dev nD) (s : Fin 4) (n : ℕ) : sProp 𝕄 :=
  iprop(own c cc0_scratch4 (qC m c) ∗ slotDone m c s ∗ ctxAt m c (8 * s.val + n))

theorem heads_getElem : ∀ (i : ℕ) (h : i < heads.length), heads[i] = (⟨i, h⟩ : Fin 8) :=
  fun i h => (by decide : ∀ j : Fin 8, heads[j.val]'j.isLt = j) ⟨i, h⟩

theorem setOn_hW_k (s : Fin 4) (h : Fin 8) : kM.view.setOn (hW s h).toLoadRect.set ⊆ slotSet s := by
  intro i hi
  obtain ⟨x, hx, rfl⟩ := Finset.mem_map.mp hi
  exact hW_subset s h hx
theorem setOn_hW_v (s : Fin 4) (h : Fin 8) : vM.view.setOn (hW s h).toLoadRect.set ⊆ slotSet s := by
  intro i hi
  obtain ⟨x, hx, rfl⟩ := Finset.mem_map.mp hi
  exact hW_subset s h hx

/-- One head. -/
theorem runs_head (c : Dev nD) (s : Fin 4) (h : Fin 8) (Kt : PUnit → sProp 𝕄) :
    iprop(heading m c s h.val ∗ (heading m c s (h.val + 1) -∗ Kt ⟨⟩)) ⊢ runs c (head c s h) Kt := by
  unfold head
  simp only [Prog.lift, Prog.bind_op, Prog.bind_ret]
  unfold heading slotDone ctxAt
  iintro ⟨⟨Hq, ⟨HK, HV⟩, ⟨%f, %hf, Hc⟩⟩, Hk⟩
  iapply (wp_load 𝒱₀ (c : Thread nD τ) none Set.univ (m := qM) (Finset.subset_univ _)) $$ Hq; iintro Hq
  iapply (wp_load 𝒱₀ (c : Thread nD τ) none Set.univ (m := kM) (setOn_hW_k s h)) $$ HK; iintro HK
  iapply (wp_load 𝒱₀ (c : Thread nD τ) none Set.univ (m := vM) (setOn_hW_v s h)) $$ HV; iintro HV
  iapply (wp_load 𝒱₀ (c : Thread nD τ) none Set.univ (m := cM) (Finset.subset_univ _)) $$ Hc; iintro Hc
  iapply (wp_store 𝒱₀ (c : Thread nD τ) none Set.univ (m := cM) (r := qW c s h) (Mk := Finset.univ) (Finset.subset_univ _)) $$ Hc; iintro Hc
  rw [wp_ret]; imodintro
  iapply Hk
  isplitl [Hq]; · iexact Hq
  isplitl [HK HV]
  · isplitl [HK]; · iexact HK
    iexact HV
  iexists _
  isplitr
  · ipureintro
    exact ctxDone_write c s h (qC m c) (kA m c) (vA m c) f hf
  · rw [qM_read, kM_read, vM_read]
    iexact Hc

/-- A slot: its copies land, its heads run. -/
theorem runs_slot (c : Dev nD) (s : Fin 4) (l : List (Dev nD × CK)) (hl : ((l.map Prod.snd).all fun k => decide (0 < slev (csem k))) = true)
    (Kt : PUnit → sProp 𝕄) :
    iprop((flying m c s 32 0 ∗ own c cc0_scratch4 (qC m c) ∗ ctxAt m c (8 * s.val) ∗ levAts L lv ∗ ∃ W, owes (c : Thread nD τ) (owedL l) W)
        ∗ ((slotDone m c s ∗ semVal ((c : Thread nD τ), .dma (semKV s)) 0 ∗ own c cc0_scratch4 (qC m c) ∗ ctxAt m c (8 * s.val + 8)
            ∗ ∃ W, owes (c : Thread nD τ) (owedL l) W) -∗ Kt ⟨⟩))
      ⊢ runs c (slot c s) Kt := by
  unfold slot runs
  rw [wp_bind]
  iintro ⟨⟨HB, Hq, Hc, #Hlev, HO⟩, Hk⟩
  iapply (runs_waitSlot m c s l hl)
  isplitl [HB HO]
  · isplitl [HB]; · iexact HB
    isplitr; · iexact Hlev
    iexact HO
  iintro ⟨HS, Hz, HO⟩
  iapply (runs_each c heads (head c s) (heading m c s) Kt (fun i h Kt => by rw [heads_getElem i h]; exact runs_head m c s ⟨i, h⟩ Kt))
  isplitl [Hq HS Hc]
  · unfold heading
    isplitl [Hq]; · iexact Hq
    isplitl [HS]; · iexact HS
    iexact Hc
  unfold heading
  iintro ⟨Hq, HS, Hc⟩
  iapply Hk
  isplitl [HS]; · iexact HS
  isplitl [Hz]; · iexact Hz
  isplitl [Hq]; · iexact Hq
  isplitl [Hc]; · iexact Hc
  iexact HO

/-! ## The weights -/

/-- The copy of this device's query weights, `n` = 1 when it has been started. -/
abbrev wqFly (c : Dev nD) (n : ℕ) : sProp 𝕄 :=
  Transfers.Batch EC (c : Thread nD τ) (.dma semW) () wqM.view.dmaCredit (fun _ : Fin 1 => own c cc0_scratch0 (wqC m c)) n 0
/-- The copy of this device's output weights. -/
abbrev woFly (c : Dev nD) (n : ℕ) : sProp 𝕄 :=
  Transfers.Batch EC (c : Thread nD τ) (.dma semO) () woM.view.dmaCredit (fun _ : Fin 1 => own c cc0_scratch1 (woC m c)) n 0

theorem start_wq (c : Dev nD) (Kt : PUnit → sProp 𝕄) :
    iprop((arr c main_arg1 (wqA m c) ∗ wqFly m c 0 ∗ ownAny c cc0_scratch0) ∗ ((arr c main_arg1 (wqA m c) ∗ wqFly m c 1) -∗ Kt ⟨⟩))
      ⊢ runs c (Prog.lift (.enqueueDma (wqS c) (.here wqM) (.dma semW) (View.wordExact_bits rfl) (Memref.isWhole_whole _).wordExact ⟨Or.inl rfl, trivial⟩)) Kt := by
  simp only [Prog.lift]
  iintro ⟨⟨HA, HB, ⟨%fd, Hd⟩⟩, Hk⟩
  ihave HA2 := arr_take c main_arg1 (wqA m c) (wqS c).view.set $$ HA
  icases HA2 with ⟨⟨%q, Hs⟩, HA⟩
  iapply (Transfers.wp_dmaBatch EC 𝒱₀ (c : Thread nD τ) none (src := wqS c) (dst := wqM) (q := q) (fs := wqA m c) (Sd := Finset.univ) (fd := fd)
      (sm := .dma semW) (D := fun _ : Fin 1 => own c cc0_scratch0 (wqC m c)) () wqM.view.dmaCredit rfl (Finset.subset_univ _) Nat.zero_lt_one (Nat.zero_le _) ?_) $$ [HB Hs Hd]
  · iintro ⟨H, -⟩
    iapply (Entails.of_eq (congrArg (own c cc0_scratch0) (View.write_whole_univ cc0_scratch0 fd (wqC m c))))
    iexact H
  · isplitl [Hs]; · iexact Hs
    isplitl [Hd]; · iexact Hd
    iexact HB
  iintro HB
  rw [wp_ret]; imodintro
  iapply Hk
  isplitl [HA]; · iexact HA
  iexact HB

theorem start_wo (c : Dev nD) (Kt : PUnit → sProp 𝕄) :
    iprop((arr c main_arg4 (woA m c) ∗ woFly m c 0 ∗ ownAny c cc0_scratch1) ∗ ((arr c main_arg4 (woA m c) ∗ woFly m c 1) -∗ Kt ⟨⟩))
      ⊢ runs c (Prog.lift (.enqueueDma (woS c) (.here woM) (.dma semO) (View.wordExact_bits rfl) (Memref.isWhole_whole _).wordExact ⟨Or.inl rfl, trivial⟩)) Kt := by
  simp only [Prog.lift]
  iintro ⟨⟨HA, HB, ⟨%fd, Hd⟩⟩, Hk⟩
  ihave HA2 := arr_take c main_arg4 (woA m c) (woS c).view.set $$ HA
  icases HA2 with ⟨⟨%q, Hs⟩, HA⟩
  iapply (Transfers.wp_dmaBatch EC 𝒱₀ (c : Thread nD τ) none (src := woS c) (dst := woM) (q := q) (fs := woA m c) (Sd := Finset.univ) (fd := fd)
      (sm := .dma semO) (D := fun _ : Fin 1 => own c cc0_scratch1 (woC m c)) () woM.view.dmaCredit rfl (Finset.subset_univ _) Nat.zero_lt_one (Nat.zero_le _) ?_) $$ [HB Hs Hd]
  · iintro ⟨H, -⟩
    iapply (Entails.of_eq (congrArg (own c cc0_scratch1) (View.write_whole_univ cc0_scratch1 fd (woC m c))))
    iexact H
  · isplitl [Hs]; · iexact Hs
    isplitl [Hd]; · iexact Hd
    iexact HB
  iintro HB
  rw [wp_ret]; imodintro
  iapply Hk
  isplitl [HA]; · iexact HA
  iexact HB

/-- All copies of keys and values start, and that of the output weights. -/
theorem runs_starts (c : Dev nD) (Kt : PUnit → sProp 𝕄) :
    iprop((arr c main_arg2 (kA m c) ∗ arr c main_arg3 (vA m c) ∗ arr c main_arg4 (woA m c)
          ∗ (flying m c 0 0 0 ∗ flying m c 1 0 0 ∗ flying m c 2 0 0 ∗ flying m c 3 0 0 ∗ woFly m c 0)
          ∗ bigSep Finset.univ (fun s : Fin 4 => bigSep Finset.univ (tilesAny c s)) ∗ ownAny c cc0_scratch1)
        ∗ ((arr c main_arg2 (kA m c) ∗ arr c main_arg3 (vA m c) ∗ arr c main_arg4 (woA m c)
          ∗ flying m c 0 32 0 ∗ flying m c 1 32 0 ∗ flying m c 2 32 0 ∗ flying m c 3 32 0 ∗ woFly m c 1) -∗ Kt ⟨⟩))
      ⊢ runs c (starts c) Kt := by
  unfold starts runs
  simp only [wp_bind]
  rw [bigSep_four]
  iintro ⟨⟨HK, HV, HW, ⟨F0, F1, F2, F3, FW⟩, ⟨T0, T1, T2, T3⟩, Hw⟩, Hk⟩
  iapply (runs_startSlot m c 0)
  isplitl [HK HV F0 T0]
  · isplitl [HK]; · iexact HK
    isplitl [HV]; · iexact HV
    isplitl [F0]; · iexact F0
    iexact T0
  iintro ⟨HK, HV, F0⟩
  iapply (runs_startSlot m c 1)
  isplitl [HK HV F1 T1]
  · isplitl [HK]; · iexact HK
    isplitl [HV]; · iexact HV
    isplitl [F1]; · iexact F1
    iexact T1
  iintro ⟨HK, HV, F1⟩
  iapply (runs_startSlot m c 2)
  isplitl [HK HV F2 T2]
  · isplitl [HK]; · iexact HK
    isplitl [HV]; · iexact HV
    isplitl [F2]; · iexact F2
    iexact T2
  iintro ⟨HK, HV, F2⟩
  iapply (runs_startSlot m c 3)
  isplitl [HK HV F3 T3]
  · isplitl [HK]; · iexact HK
    isplitl [HV]; · iexact HV
    isplitl [F3]; · iexact F3
    iexact T3
  iintro ⟨HK, HV, F3⟩
  iapply (start_wo m c)
  isplitl [HW FW Hw]
  · isplitl [HW]; · iexact HW
    isplitl [FW]; · iexact FW
    iexact Hw
  iintro ⟨HW, FW⟩
  iapply Hk
  isplitl [HK]; · iexact HK
  isplitl [HV]; · iexact HV
  isplitl [HW]; · iexact HW
  isplitl [F0]; · iexact F0
  isplitl [F1]; · iexact F1
  isplitl [F2]; · iexact F2
  isplitl [F3]; · iexact F3
  iexact FW

/-! ## The queries -/

theorem write_q (c : Dev nD) (f : S256x1024.Idx → Elt F .f32) :
    (qM.access (Rect.unit (s := S256x1024) ![0, 0] S256x1024.size inb_S256x1024_S256x1024_0_0) : View sig .tc _ _ _).write (Elt F) f
      (k0_pay2 (xM.view.readAt (Elt F) (Rect.unit (s := S1x256x1024) ![0, 0, 0] S1x256x1024.size inb_S1x256x1024_S1x256x1024_0_0_0).toLoadRect (xC m c))
        (wqM.view.readAt (Elt F) (Rect.unit (s := S1024x1024) ![0, 0] S1024x1024.size inb_S1024x1024_S1024x1024_0_0).toLoadRect (wqC m c))) Finset.univ = qC m c := by
  have e1 : xM.view.readAt (Elt F) (Rect.unit (s := S1x256x1024) ![0, 0, 0] S1x256x1024.size inb_S1x256x1024_S1x256x1024_0_0_0).toLoadRect (xC m c) = xC m c :=
    Memref.readAt_unit_zero (Elt F) cc0_stg0_0 hz3 _ _
  have e2 : wqM.view.readAt (Elt F) (Rect.unit (s := S1024x1024) ![0, 0] S1024x1024.size inb_S1024x1024_S1024x1024_0_0).toLoadRect (wqC m c) = wqC m c :=
    Memref.readAt_unit_zero (Elt F) cc0_scratch0 hz2 _ _
  rw [e1, e2]
  exact Memref.write_access_unit_zero_univ (Elt F) cc0_scratch4 hz2 _ f _

/-- The scaled queries: the weights have landed, and are multiplied with the activations. -/
theorem runs_queries (c : Dev nD) (l : List (Dev nD × CK)) (hl : ((l.map Prod.snd).all fun k => decide (0 < slev (csem k))) = true)
    (Kt : PUnit → sProp 𝕄) :
    iprop((wqFly m c 1 ∗ own c cc0_stg0_0 (xC m c) ∗ ownAny c cc0_scratch4 ∗ levAts L lv ∗ ∃ W, owes (c : Thread nD τ) (owedL l) W)
        ∗ ((own c cc0_scratch0 (wqC m c) ∗ semVal ((c : Thread nD τ), .dma semW) 0 ∗ own c cc0_stg0_0 (xC m c) ∗ own c cc0_scratch4 (qC m c)
            ∗ ∃ W, owes (c : Thread nD τ) (owedL l) W) -∗ Kt ⟨⟩))
      ⊢ runs c (queries c) Kt := by
  unfold queries
  simp only [Prog.lift, Prog.bind_op, Prog.bind_ret]
  iintro ⟨⟨HB, Hx, ⟨%f, Hq⟩, #Hlev, ⟨%W, HO⟩⟩, Hk⟩
  iapply (Transfers.wp_waitBatchLastO EC 𝒱₀ (c : Thread nD τ) none () (N := wqM.view.dmaCredit) rfl (View.dmaCredit_pos _ (by decide)) (by rw [Nat.zero_add, Nat.mul_one])) $$ [HB HO]
  · isplitl [HB]; · iexact HB
    isplitl [HO]; · iexact HO
    iapply (mayWait c _ l 0 slev_W hl); iexact Hlev
  iintro ⟨Hw1, Hz, HO⟩
  ihave Hw := (Entails.of_eq (bigSep_one (own c cc0_scratch0 (wqC m c)))) $$ Hw1
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hw; iintro Hw
  iapply (wp_load 𝒱₀ (c : Thread nD τ) none Set.univ (m := qM) (Finset.subset_univ _)) $$ Hq; iintro Hq
  iapply (wp_store 𝒱₀ (c : Thread nD τ) none Set.univ (m := qM) (r := Rect.unit (s := S256x1024) ![0, 0] S256x1024.size inb_S256x1024_S256x1024_0_0) (Mk := Finset.univ) (Finset.subset_univ _)) $$ Hq; iintro Hq
  rw [wp_ret]; imodintro
  iapply Hk
  isplitl [Hw]; · iexact Hw
  isplitl [Hz]; · iexact Hz
  isplitl [Hx]; · iexact Hx
  isplitl [Hq]
  · iapply (Entails.of_eq (congrArg (own c cc0_scratch4) (write_q m c f)))
    iexact Hq
  iexists _; iexact HO

end Cert.KernelIdealProof

end
-- ==== Proof.KernelIdeal.Talk.lean ====
/- The parts of the body in which the devices talk: the handshake at entry, and the four rounds of the reduction. -/
module

public import proofs.«01_k».proof.Proof.KernelIdeal.Local

@[expose] public section

set_option maxRecDepth 16384

noncomputable section

namespace Cert.KernelIdealProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ
local notation "ℙ" => Prog (TpuEff nD τ sig (Elt F) Λ₀ Proc.tc)

variable (m : (ℓ : Loc nD τ sig) → Buf (Elt F) ℓ)

/-- Device `c` still owes its payments from number `n` on. -/
abbrev owing (c : Dev nD) (n : ℕ) : sProp 𝕄 := iprop(∃ W, owes (c : Thread nD τ) (owed c n) W)

/-- Whether only cells above level `lev` are owed from payment `n` on. -/
abbrev above (lev : ℕ) (c : Dev nD) (n : ℕ) : Prop := ((((payments c).drop n).map Prod.snd).all fun k => decide (lev < slev (csem k))) = true

theorem above_bar : ∀ c, above 1 c 2 := by decide
theorem above_local : ∀ c (n : Fin 8), above 0 c n.val := by decide
theorem above_r0 : ∀ c, above 2 c 3 := by decide
theorem above_r1 : ∀ c, above 3 c 4 := by decide
theorem above_r2 : ∀ c, above 4 c 6 := by decide
theorem above_done : ∀ c (lev : Fin 8), above lev.val c 7 := by decide

/-- The wait on one of this device's own copy cells: what the cell's payment carries, and the cell at zero. -/
theorem wait_cell (K : Dev nD × CK → ℕ) (c : Dev nD) (b : Bool) (r : Fin 5) (n lev : ℕ) {sem : DmaSem sig} (hs : csem (some (b, r)) = .dma sem)
    (hlev : slev (.dma sem) = lev) (hl : above lev c n) {sp sp' : Space} {s s' : Shape} {e e' : EltTy} {srcw : Memref sig .tc sp' s' e'} {dstw : Memref sig .tc sp s e}
    {hsrc : srcw.view.WordExact} {hdst : dstw.view.WordExact} (hN : dstw.view.dmaCredit = credit r) {k : PUnit → ℙ PUnit} {Q : PUnit → sProp 𝕄} :
    iprop(records m K ∗ levAts L lv ∗ cred (tallyAt (kcell (c, some (b, r))) () (credit r)) ∗ atPos ER (kcell (c, some (b, r))) 0 ∅ 0 ∗ owing c n)
      ⊢ iprop(((pay m c (some (b, r)) false ∗ semVal ((c : Thread nD τ), .dma sem) 0 ∗ owing c n) -∗ runs c (k ⟨⟩) Q)
          -∗ runs c (.op (.waitDma2 sem srcw dstw hsrc hdst) k) Q) := by
  iintro ⟨#HR, #Hlev, Hc, Hat, ⟨%W, HO⟩⟩ Hk
  ihave #HI := (inv_at m K c (some (b, r))) $$ HR
  have hcell : kcell (c, some (b, r)) = ((c : Thread nD τ), SemLoc.dma sem) := congrArg (Prod.mk (c : Thread nD τ)) hs
  have hrest := rest_dma m c b r
  have hexp := expect_dma m c b r
  have hlater := duties_later m (kcell (c, some (b, r)))
  rw [hcell] at hrest hexp hlater ⊢
  iapply (Rounds.wp_wait_rest_token 𝒱₀ ER (sched m) (c : Thread nD τ) none (κ := K (c, some (b, r)))
      (wpE_waitDma2_eq 𝒱₀ (c : Thread nD τ) none Set.univ) (Set.mem_univ _) () (O := owed c n) (W := W) (R := 0) (m := 0) (T := ∅)
      (by rw [Nat.zero_add, hexp, hN])) $$ [Hc HO Hat]
  · isplitr; · iexact HI
    isplitl [Hc]; · rw [hN]; iexact Hc
    isplitl [HO]; · iexact HO
    isplitr; · iapply (mayWait c _ _ lev hlev hl); iexact Hlev
    iexact Hat
  iintro ⟨HO, Hat, -, Hpay⟩
  ihave Hp := (Entails.of_eq hrest) $$ Hpay
  imod (Rounds.cell_close ER (sched m) (Set.mem_univ (K (c, some (b, r)))) (fun h => h) (R := 0 + 1) hlater) $$ [Hat] with Hz
  · isplitr; · iexact HI
    iexact Hat
  iapply Hk
  isplitl [Hp]; · iexact Hp
  isplitl [Hz]; · iexact Hz
  iexists _; iexact HO

/-- Remote copy `r`: the source goes into the send cell's payment, the destination, written, into the target's receive
    cell's; one payment less is owed. -/
theorem send_round (K : Dev nD × CK → ℕ) (c n : Dev nD) (r : Fin 5) (hn : n = tgt r c) (i : ℕ)
    (hO : owed c i = owed c (i + 1) + tallyAt (recvCell r (tgt r c)) () (credit r))
    {s : Shape} {src dst : Memref sig .tc .vmem s .bf16} {hsc : dst.view.ref.isScScratch = false}
    {hsrc : src.view.WordExact} {hdst : dst.view.WordExact}
    {hsem : DmaTarget.Typed .vmem (.dma (semR r)) (.remote (Dev.tc n : Thread nD τ) dst (.dma (semS r)) hsc)}
    {k : PUnit → ℙ PUnit} {Q : PUnit → sProp 𝕄} {q : PosShare TreeShare}
    {fs : Buf (Elt F) (src.view.loc (c : Thread nD τ))} {fd : Buf (Elt F) (dst.view.loc (tgt r c : Thread nD τ))}
    {Ss : Finset (Idx (src.view.loc (c : Thread nD τ)))} {Sd : Finset (Idx (dst.view.loc (tgt r c : Thread nD τ)))}
    (hSs : src.view.set = Ss) (hSd : dst.view.set = Sd) (hN : dst.view.dmaCredit = credit r)
    (hpay₁ : (src.view.loc (c : Thread nD τ) ↦[Ss]{q} fs) ⊢ pay m c (some (false, r)) false)
    (hpay₂ : (dst.view.loc (tgt r c : Thread nD τ) ↦[Sd]{fullShare} (dst.view.write (Elt F) fd (src.view.read (Elt F) fs) Finset.univ))
      ⊢ pay m (tgt r c) (some (true, r)) false) :
    iprop(records m K ∗ (src.view.loc (c : Thread nD τ) ↦[Ss]{q} fs) ∗ (dst.view.loc (tgt r c : Thread nD τ) ↦[Sd]{fullShare} fd)
        ∗ owing c i ∗ dutyTok ER (sendCell r c) 0 false ∗ dutyTok ER (recvCell r (tgt r c)) 0 false)
      ⊢ iprop(((cred (tallyAt (sendCell r c) () (credit r)) ∗ owing c (i + 1)) -∗ runs c (k ⟨⟩) Q)
          -∗ runs c (.op (.enqueueDma src (.remote (Dev.tc n : Thread nD τ) dst (.dma (semS r)) hsc) (.dma (semR r)) hsrc hdst hsem) k) Q) := by
  subst hn hSs hSd
  iintro ⟨#HR, Hs, Hd, ⟨%W, HO⟩, Ht1, Ht2⟩ Hk
  ihave #HI1 := (inv_at m K c (some (false, r))) $$ HR
  ihave #HI2 := (inv_at m K (tgt r c) (some (true, r))) $$ HR
  ihave #Hr1 := (reached_at m K c (some (false, r))) $$ HR
  ihave #Hr2 := (reached_at m K (tgt r c) (some (true, r))) $$ HR
  iapply (Rounds.wp_send_pointsTo 𝒱₀ ER (sched m) (c : Thread nD τ) none (κ₁ := K (c, some (false, r))) (κ₂ := K (tgt r c, some (true, r)))
      (sS := .dma (semS r)) (sem := .dma (semR r)) (r₁ := 0) (r₂ := 0) (d₁ := false) (d₂ := false) (fd := fd)
      (by rw [duties_eq m c (some (false, r))]; exact Finset.mem_singleton_self _)
      (by rw [duties_eq m (tgt r c) (some (true, r))]; exact Finset.mem_singleton_self _)
      () () (credit r) hN (amount_eq m c (some (false, r)) 0 false) (amount_eq m (tgt r c) (some (true, r)) 0 false) (owed c (i + 1)) hO (W := W)
      (by rw [payload_eq m c (some (false, r))]; exact hpay₁)
      (by rw [payload_eq m (tgt r c) (some (true, r))]; exact hpay₂)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-! ## The handshake -/

/-- At entry a device lends its receive buffers to its partners, and gets theirs; the query weights' copy starts. -/
theorem runs_entry (K : Dev nD × CK → ℕ) (c : Dev nD) (Kt : PUnit → sProp 𝕄) :
    iprop((records m K ∗ levAts L lv ∗ owing c 0 ∗ dutyTok ER (barCell (pa c)) 0 false ∗ dutyTok ER (barCell (pb c)) 0 true
          ∗ cred (tallyAt (barCell c) () 2) ∗ atPos ER (barCell c) 0 ∅ 0
          ∗ ownAny c cc0_scratch9 ∗ ownAny c cc0_scratch10 ∗ ownAny c cc0_scratch11 ∗ ownAny c cc0_scratch12
          ∗ arr c main_arg1 (wqA m c) ∗ wqFly m c 0 ∗ ownAny c cc0_scratch0)
        ∗ ((owing c 2 ∗ pay m c none false ∗ pay m c none true ∗ semVal ((c : Thread nD τ), .reg semB) 0
            ∗ arr c main_arg1 (wqA m c) ∗ wqFly m c 1) -∗ Kt ⟨⟩))
      ⊢ runs c (entry c) Kt := by
  unfold entry
  simp only [semSignalWord, semWaitWord, Prog.lift, Prog.bind_op, Prog.bind_ret, Prog.pure_eq_ret]
  simp only [dev1_eq c, dev2_eq c]
  iintro ⟨⟨#HR, #Hlev, ⟨%W, HO⟩, Ht1, Ht2, Hc, Hat, H9, H10, H11, ⟨%f12, H12⟩, HA, HB, H0⟩, Hk⟩
  ihave #HI := (inv_at m K c none) $$ HR
  ihave #HIa := (inv_at m K (pa c) none) $$ HR
  ihave #HIb := (inv_at m K (pb c) none) $$ HR
  ihave #Hra := (reached_at m K (pa c) none) $$ HR
  ihave #Hrb := (reached_at m K (pb c) none) $$ HR
  -- to partner `pa`: the receive buffers of rounds 1 and 4
  iapply (Rounds.wp_signal 𝒱₀ ER (sched m) (c : Thread nD τ) none (dst := (pa c : Thread nD τ)) (κ := K (pa c, none))
      (d := false) (by rw [duties_eq m (pa c) none]; exact Finset.mem_univ _) ((amount_eq m (pa c) none 0 false).trans (by decide)) () (owed c 1) rfl)
    $$ [HO Ht1 H9 H12]
  · isplitr; · iexact HIa
    isplitl [HO]; · iexact HO
    isplitl [Ht1]; · iexact Ht1
    isplitl [H9 H12]
    · rw [payload_eq m (pa c) none]; unfold pay; rw [pa_pa]
      isplitl [H9]; · iexact H9
      rw [← halves_union (pa c)]
      ihave H := (pointsTo_union (halves_disjoint (pa c))).1 $$ H12
      icases H with ⟨Ha, Hb⟩
      isplitl [Ha]; · iexists f12; iexact Ha
      iexists f12; iexact Hb
    · iexact Hra
  iintro HO
  -- to partner `pb`: those of rounds 2 and 3
  iapply (Rounds.wp_signal 𝒱₀ ER (sched m) (c : Thread nD τ) none (dst := (pb c : Thread nD τ)) (κ := K (pb c, none))
      (d := true) (by rw [duties_eq m (pb c) none]; exact Finset.mem_univ _) ((amount_eq m (pb c) none 0 true).trans (by decide)) () (owed c 2) rfl)
    $$ [HO Ht2 H10 H11]
  · isplitr; · iexact HIb
    isplitl [HO]; · iexact HO
    isplitl [Ht2]; · iexact Ht2
    isplitl [H10 H11]
    · rw [payload_eq m (pb c) none]; unfold pay; rw [pb_pb]
      isplitl [H10]; · iexact H10
      iexact H11
    · iexact Hrb
  iintro HO
  -- both partners' signals
  iapply (Rounds.wp_wait_rest_token 𝒱₀ ER (sched m) (c : Thread nD τ) none (κ := K (c, none))
      (wpE_semWait_eq 𝒱₀ (c : Thread nD τ) none Set.univ) (Set.mem_univ _) () (O := owed c 2) (W := W) (R := 0) (m := 0) (T := ∅)
      (by rw [expect_bar m c]; decide)) $$ [Hc HO Hat]
  · isplitr; · iexact HI
    isplitl [Hc]; · iexact Hc
    isplitl [HO]; · iexact HO
    isplitr; · iapply (mayWait c _ _ 1 (by decide) (above_bar c)); iexact Hlev
    iexact Hat
  iintro ⟨HO, Hat, -, Hpay⟩
  ihave Hp := (Entails.of_eq (rest_bar m c)) $$ Hpay
  icases Hp with ⟨Hpa, Hpb⟩
  imod (Rounds.cell_close ER (sched m) (Set.mem_univ (K (c, none))) (fun h => h) (R := 0 + 1) (duties_later m (barCell c))) $$ [Hat] with Hz
  · isplitr; · iexact HI
    iexact Hat
  iapply (start_wq m c)
  isplitl [HA HB H0]
  · isplitl [HA]; · iexact HA
    isplitl [HB]; · iexact HB
    iexact H0
  iintro ⟨HA, HB⟩
  iapply Hk
  isplitl [HO]; · iexists _; iexact HO
  isplitl [Hpa]; · iexact Hpa
  isplitl [Hpb]; · iexact Hpb
  isplitl [Hz]; · iexact Hz
  isplitl [HA]; · iexact HA
  iexact HB

/-! ## The rounds -/

theorem read_wo (c : Dev nD) : woM.view.readAt (Elt F) (Rect.unit (s := S1024x1024) ![0, 0] S1024x1024.size inb_S1024x1024_S1024x1024_0_0).toLoadRect (woC m c) = woC m c :=
  Memref.readAt_unit_zero (Elt F) cc0_scratch1 hz2 _ _
theorem write_s1 (f w : S128x1024.Idx → Elt F .bf16) :
    (s1M.access (Rect.unit (s := S128x1024) ![0, 0] S128x1024.size inb_S128x1024_S128x1024_0_0) : View sig .tc _ _ _).write (Elt F) f w Finset.univ = w :=
  Memref.write_access_unit_zero_univ (Elt F) cc0_scratch6 hz2 _ f w
theorem write_s2 (f w : S64x1024.Idx → Elt F .bf16) :
    (s2M.access (Rect.unit (s := S64x1024) ![0, 0] S64x1024.size inb_S64x1024_S64x1024_0_0) : View sig .tc _ _ _).write (Elt F) f w Finset.univ = w :=
  Memref.write_access_unit_zero_univ (Elt F) cc0_scratch7 hz2 _ f w
theorem write_s3 (f w : S64x1024.Idx → Elt F .bf16) :
    (s3M.access (Rect.unit (s := S64x1024) ![0, 0] S64x1024.size inb_S64x1024_S64x1024_0_0) : View sig .tc _ _ _).write (Elt F) f w Finset.univ = w :=
  Memref.write_access_unit_zero_univ (Elt F) cc0_scratch8 hz2 _ f w
theorem read_r2 (f : S64x1024.Idx → Elt F .bf16) : r2M.view.readAt (Elt F) (Rect.unit (s := S64x1024) ![0, 0] S64x1024.size inb_S64x1024_S64x1024_0_0).toLoadRect f = f :=
  Memref.readAt_unit_zero (Elt F) cc0_scratch10 hz2 _ _
theorem read_r3 (f : S64x1024.Idx → Elt F .bf16) : r3M.view.readAt (Elt F) (Rect.unit (s := S64x1024) ![0, 0] S64x1024.size inb_S64x1024_S64x1024_0_0).toLoadRect f = f :=
  Memref.readAt_unit_zero (Elt F) cc0_scratch11 hz2 _ _
theorem read_r4 (f : S128x1024.Idx → Elt F .bf16) : r4M.view.readAt (Elt F) (Rect.unit (s := S128x1024) ![0, 0] S128x1024.size inb_S128x1024_S128x1024_0_0).toLoadRect f = f :=
  Memref.readAt_unit_zero (Elt F) cc0_scratch12 hz2 _ _

/-- Round 1: this device's part of the rows of slots 0 and 1, sent to `pa`. -/
theorem runs_round1 (K : Dev nD × CK → ℕ) (c : Dev nD) (Kt : PUnit → sProp 𝕄) :
    iprop((records m K ∗ levAts L lv ∗ woFly m c 1 ∗ ctxAt m c 16 ∗ ownAny c cc0_stg1_0 ∗ ownAny c cc0_scratch6 ∗ owing c 2
          ∗ ownAny (pa c) cc0_scratch9 ∗ dutyTok ER (sendCell 0 c) 0 false ∗ dutyTok ER (recvCell 0 (pa c)) 0 false)
        ∗ ((own c cc0_scratch1 (woC m c) ∗ semVal ((c : Thread nD τ), .dma semO) 0 ∗ ctxAt m c 16 ∗ ownAny c cc0_stg1_0 ∗ owing c 3
            ∗ cred (tallyAt (sendCell 0 c) () (credit 0))) -∗ Kt ⟨⟩))
      ⊢ runs c (round1 c) Kt := by
  unfold round1
  simp only [Prog.lift, Prog.bind_op, Prog.bind_ret]
  unfold ctxAt
  iintro ⟨⟨#HR, #Hlev, HB, ⟨%fc, %hfc, Hc⟩, ⟨%fo, Ho⟩, ⟨%f6, H6⟩, ⟨%W, HO⟩, ⟨%f9, H9⟩, Ht1, Ht2⟩, Hk⟩
  iapply (Transfers.wp_waitBatchLastO EC 𝒱₀ (c : Thread nD τ) none () (N := woM.view.dmaCredit) rfl (View.dmaCredit_pos _ (by decide)) (by rw [Nat.zero_add, Nat.mul_one])) $$ [HB HO]
  · isplitl [HB]; · iexact HB
    isplitl [HO]; · iexact HO
    iapply (mayWait c _ _ 0 slev_O (above_local c 2)); iexact Hlev
  iintro ⟨Hw1, Hz, HO⟩
  ihave Hw := (Entails.of_eq (bigSep_one (own c cc0_scratch1 (woC m c)))) $$ Hw1
  iapply (wp_load 𝒱₀ (c : Thread nD τ) none Set.univ (m := cM) (Finset.subset_univ _)) $$ Hc; iintro Hc
  iapply (wp_load 𝒱₀ (c : Thread nD τ) none Set.univ (m := woM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := w24 c) (Mk := Finset.univ) (Finset.subset_univ _)) $$ Ho; iintro Ho
  iapply (wp_load 𝒱₀ (c : Thread nD τ) none Set.univ (m := oM) (Finset.subset_univ _)) $$ Ho; iintro Ho
  iapply (wp_load 𝒱₀ (c : Thread nD τ) none Set.univ (m := s1M) (Finset.subset_univ _)) $$ H6; iintro H6
  iapply (wp_store 𝒱₀ (c : Thread nD τ) none Set.univ (m := s1M) (r := Rect.unit (s := S128x1024) ![0, 0] S128x1024.size inb_S128x1024_S128x1024_0_0) (Mk := Finset.univ) (Finset.subset_univ _)) $$ H6; iintro H6
  rw [write_s1, read_store_o (w24 c), read_w23 c (ctxC m c) fc hfc, read_wo]
  iapply (send_round m K c _ 0 (dev3_eq c) 2 rfl (src := s1M) (dst := r1M) (q := fullShare) (fs := s1C m c) (fd := f9) (Ss := Finset.univ) (Sd := Finset.univ)
      (View.set_whole _) (View.set_whole _) rfl .refl
      (by
        unfold pay tgt; rw [pa_pa]
        exact Entails.of_eq (congrArg (own (pa c) cc0_scratch9) (View.write_whole_univ cc0_scratch9 f9 (s1C m c))))) $$ [H6 H9 HO Ht1 Ht2]
  · isplitr; · iexact HR
    isplitl [H6]; · iexact H6
    isplitl [H9]; · iexact H9
    isplitl [HO]; · iexists _; iexact HO
    isplitl [Ht1]; · iexact Ht1
    iexact Ht2
  iintro ⟨Hcr, HO⟩
  unfold runs; rw [wp_ret]; imodintro
  iapply Hk
  isplitl [Hw]; · iexact Hw
  isplitl [Hz]; · iexact Hz
  isplitl [Hc]; · iexists fc; isplitr; · (ipureintro; exact hfc)
                  iexact Hc
  isplitl [Ho]; · iexists _; iexact Ho
  isplitl [HO]; · iexact HO
  iexact Hcr

/-- What the receive cells of rounds 1, 2 and 3 hand over. -/
theorem pay_recv0 (c : Dev nD) : pay m c (some (true, 0)) false = own c cc0_scratch9 (s1C m (pa c)) := rfl
theorem pay_recv1 (c : Dev nD) : pay m c (some (true, 1)) false = own c cc0_scratch10 (s2C m (pb c)) := rfl
theorem pay_recv2 (c : Dev nD) : pay m c (some (true, 2)) false = own c cc0_scratch11 (s3C m (pb c)) := rfl

/-- What the other cells hand over. -/
theorem pay_send0 (c : Dev nD) : pay m c (some (false, 0)) false = own c cc0_scratch6 (s1C m c) := rfl
theorem pay_send1 (c : Dev nD) : pay m c (some (false, 1)) false = own c cc0_scratch7 (s2C m c) := rfl
theorem pay_send2 (c : Dev nD) : pay m c (some (false, 2)) false = (((c : Thread nD τ).loc cc0_scratch8) ↦{fullShare.left} s3C m c) := rfl
theorem pay_send3 (c : Dev nD) : pay m c (some (false, 3)) false = (((c : Thread nD τ).loc cc0_scratch8) ↦{fullShare.right} s3C m c) := rfl
theorem pay_send4 (c : Dev nD) : pay m c (some (false, 4)) false = own c cc0_scratch11 (s3C m (pb c)) := rfl
theorem pay_recv3 (c : Dev nD) : pay m c (some (true, 3)) false = r4At c (r4a (pa c)).view.set (r4C m c) := rfl
theorem pay_recv4 (c : Dev nD) : pay m c (some (true, 4)) false = r4At c (r4b (pa c)).view.set (r4C m c) := rfl

/-- Round 2: the rows of slot 2, round 1's part added, sent to `pb`. -/
theorem runs_round2 (K : Dev nD × CK → ℕ) (c : Dev nD) (Kt : PUnit → sProp 𝕄) :
    iprop((records m K ∗ levAts L lv ∗ own c cc0_scratch1 (woC m c) ∗ ctxAt m c 24 ∗ ownAny c cc0_stg1_0 ∗ owing c 3
          ∗ cred (tallyAt (sendCell 0 c) () (credit 0)) ∗ atPos ER (sendCell 0 c) 0 ∅ 0
          ∗ cred (tallyAt (recvCell 0 c) () (credit 0)) ∗ atPos ER (recvCell 0 c) 0 ∅ 0
          ∗ ownAny c cc0_scratch7 ∗ ownAny (pb c) cc0_scratch10 ∗ dutyTok ER (sendCell 1 c) 0 false ∗ dutyTok ER (recvCell 1 (pb c)) 0 false)
        ∗ ((own c cc0_scratch1 (woC m c) ∗ ctxAt m c 24 ∗ ownAny c cc0_stg1_0 ∗ owing c 4
            ∗ own c cc0_scratch6 (s1C m c) ∗ semVal ((c : Thread nD τ), .dma (semS 0)) 0
            ∗ own c cc0_scratch9 (s1C m (pa c)) ∗ semVal ((c : Thread nD τ), .dma (semR 0)) 0
            ∗ cred (tallyAt (sendCell 1 c) () (credit 1))) -∗ Kt ⟨⟩))
      ⊢ runs c (round2 c) Kt := by
  unfold round2
  simp only [Prog.lift, Prog.bind_op, Prog.bind_ret]
  unfold ctxAt
  iintro ⟨⟨#HR, #Hlev, Hw, ⟨%fc, %hfc, Hc⟩, ⟨%fo, Ho⟩, HO, HcS, HaS, HcR, HaR, ⟨%f7, H7⟩, ⟨%f10, H10⟩, Ht1, Ht2⟩, Hk⟩
  iapply (wp_load 𝒱₀ (c : Thread nD τ) none Set.univ (m := cM) (Finset.subset_univ _)) $$ Hc; iintro Hc
  iapply (wp_load 𝒱₀ (c : Thread nD τ) none Set.univ (m := woM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := w34 c) (Mk := Finset.univ) (Finset.subset_univ _)) $$ Ho; iintro Ho
  iapply (wait_cell m K c false 0 3 0 (sem := semS 0) rfl (slev_S 0) (above_local c 3) credit_s1) $$ [HcS HaS HO]
  · isplitr; · iexact HR
    isplitr; · iexact Hlev
    isplitl [HcS]; · iexact HcS
    isplitl [HaS]; · iexact HaS
    iexact HO
  iintro ⟨H6, HzS, HO⟩
  ihave H6 := (Entails.of_eq (pay_send0 m c)) $$ H6
  iapply (wait_cell m K c true 0 3 2 (sem := semR 0) rfl (by decide) (above_r0 c) rfl) $$ [HcR HaR HO]
  · isplitr; · iexact HR
    isplitr; · iexact Hlev
    isplitl [HcR]; · iexact HcR
    isplitl [HaR]; · iexact HaR
    iexact HO
  iintro ⟨H9, HzR, HO⟩
  ihave H9 := (Entails.of_eq (pay_recv0 m c)) $$ H9
  iapply (wp_load 𝒱₀ (c : Thread nD τ) none Set.univ (m := oM) (Finset.subset_univ _)) $$ Ho; iintro Ho
  iapply (wp_load 𝒱₀ (c : Thread nD τ) none Set.univ (m := r1M) (Finset.subset_univ _)) $$ H9; iintro H9
  iapply (wp_load 𝒱₀ (c : Thread nD τ) none Set.univ (m := oM) (Finset.subset_univ _)) $$ Ho; iintro Ho
  iapply (wp_store 𝒱₀ (c : Thread nD τ) none Set.univ (m := oM) (r := w34 c) (Mk := Finset.univ) (Finset.subset_univ _)) $$ Ho; iintro Ho
  iapply (wp_load 𝒱₀ (c : Thread nD τ) none Set.univ (m := oM) (Finset.subset_univ _)) $$ Ho; iintro Ho
  iapply (wp_load 𝒱₀ (c : Thread nD τ) none Set.univ (m := s2M) (Finset.subset_univ _)) $$ H7; iintro H7
  iapply (wp_store 𝒱₀ (c : Thread nD τ) none Set.univ (m := s2M) (r := Rect.unit (s := S64x1024) ![0, 0] S64x1024.size inb_S64x1024_S64x1024_0_0) (Mk := Finset.univ) (Finset.subset_univ _)) $$ H7; iintro H7
  rw [write_s2, read_store_o (w34 c), read_store_o (w34 c), read_w33 c (ctxC m c) fc hfc, read_wo]
  iapply (send_round m K c _ 1 (dev4_eq c) 3 rfl (src := s2M) (dst := r2M) (q := fullShare) (fs := s2C m c) (fd := f10) (Ss := Finset.univ) (Sd := Finset.univ)
      (View.set_whole _) (View.set_whole _) rfl .refl
      (by
        unfold pay tgt; rw [pb_pb]
        exact Entails.of_eq (congrArg (own (pb c) cc0_scratch10) (View.write_whole_univ cc0_scratch10 f10 (s2C m c))))) $$ [H7 H10 HO Ht1 Ht2]
  · isplitr; · iexact HR
    isplitl [H7]; · iexact H7
    isplitl [H10]; · iexact H10
    isplitl [HO]; · iexact HO
    isplitl [Ht1]; · iexact Ht1
    iexact Ht2
  iintro ⟨Hcr, HO⟩
  unfold runs; rw [wp_ret]; imodintro
  iapply Hk
  isplitl [Hw]; · iexact Hw
  isplitl [Hc]
  · iexists fc
    isplitr; · (ipureintro; exact hfc)
    iexact Hc
  isplitl [Ho]; · iexists _; iexact Ho
  isplitl [HO]; · iexact HO
  isplitl [H6]; · iexact H6
  isplitl [HzS]; · iexact HzS
  isplitl [H9]; · iexact H9
  isplitl [HzR]; · iexact HzR
  iexact Hcr

/-- Round 3: the rows of slot 3, rounds 1 and 2's parts added, sent to both partners. -/
theorem runs_round3 (K : Dev nD × CK → ℕ) (c : Dev nD) (Kt : PUnit → sProp 𝕄) :
    iprop((records m K ∗ levAts L lv ∗ own c cc0_scratch1 (woC m c) ∗ ctxAt m c 32 ∗ ownAny c cc0_stg1_0 ∗ own c cc0_scratch9 (s1C m (pa c)) ∗ owing c 4
          ∗ cred (tallyAt (sendCell 1 c) () (credit 1)) ∗ atPos ER (sendCell 1 c) 0 ∅ 0
          ∗ cred (tallyAt (recvCell 1 c) () (credit 1)) ∗ atPos ER (recvCell 1 c) 0 ∅ 0
          ∗ ownAny c cc0_scratch8 ∗ ownAny (pb c) cc0_scratch11 ∗ (∃ f, r4At (pa c) (r4a c).view.set f)
          ∗ dutyTok ER (sendCell 2 c) 0 false ∗ dutyTok ER (recvCell 2 (pb c)) 0 false
          ∗ dutyTok ER (sendCell 3 c) 0 false ∗ dutyTok ER (recvCell 3 (pa c)) 0 false)
        ∗ ((own c cc0_scratch1 (woC m c) ∗ ctxAt m c 32
            ∗ (∃ f, own c cc0_stg1_0 ((oM.access (w45 c) : View sig .tc _ _ _).write (Elt F) f (a3C m c) Finset.univ))
            ∗ own c cc0_scratch9 (s1C m (pa c)) ∗ owing c 6
            ∗ own c cc0_scratch7 (s2C m c) ∗ semVal ((c : Thread nD τ), .dma (semS 1)) 0
            ∗ own c cc0_scratch10 (s2C m (pb c)) ∗ semVal ((c : Thread nD τ), .dma (semR 1)) 0
            ∗ cred (tallyAt (sendCell 2 c) () (credit 2)) ∗ cred (tallyAt (sendCell 3 c) () (credit 3))) -∗ Kt ⟨⟩))
      ⊢ runs c (round3 c) Kt := by
  unfold round3
  simp only [Prog.lift, Prog.bind_op, Prog.bind_ret]
  unfold ctxAt
  iintro ⟨⟨#HR, #Hlev, Hw, ⟨%fc, %hfc, Hc⟩, ⟨%fo, Ho⟩, H9, HO, HcS, HaS, HcR, HaR, ⟨%f8, H8⟩, ⟨%f11, H11⟩, ⟨%f12, H12⟩, Ht1, Ht2, Ht3, Ht4⟩, Hk⟩
  iapply (wp_load 𝒱₀ (c : Thread nD τ) none Set.univ (m := cM) (Finset.subset_univ _)) $$ Hc; iintro Hc
  iapply (wp_load 𝒱₀ (c : Thread nD τ) none Set.univ (m := woM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := w45 c) (Mk := Finset.univ) (Finset.subset_univ _)) $$ Ho; iintro Ho
  iapply (wp_load 𝒱₀ (c : Thread nD τ) none Set.univ (m := oM) (Finset.subset_univ _)) $$ Ho; iintro Ho
  iapply (wp_load 𝒱₀ (c : Thread nD τ) none Set.univ (m := r1M) (Finset.subset_univ _)) $$ H9; iintro H9
  iapply (wp_load 𝒱₀ (c : Thread nD τ) none Set.univ (m := oM) (Finset.subset_univ _)) $$ Ho; iintro Ho
  iapply (wp_store 𝒱₀ (c : Thread nD τ) none Set.univ (m := oM) (r := w45 c) (Mk := Finset.univ) (Finset.subset_univ _)) $$ Ho; iintro Ho
  iapply (wait_cell m K c false 1 4 0 (sem := semS 1) rfl (slev_S 1) (above_local c 4) credit_s2) $$ [HcS HaS HO]
  · isplitr; · iexact HR
    isplitr; · iexact Hlev
    isplitl [HcS]; · iexact HcS
    isplitl [HaS]; · iexact HaS
    iexact HO
  iintro ⟨H7, HzS, HO⟩
  ihave H7 := (Entails.of_eq (pay_send1 m c)) $$ H7
  iapply (wait_cell m K c true 1 4 3 (sem := semR 1) rfl (by decide) (above_r1 c) rfl) $$ [HcR HaR HO]
  · isplitr; · iexact HR
    isplitr; · iexact Hlev
    isplitl [HcR]; · iexact HcR
    isplitl [HaR]; · iexact HaR
    iexact HO
  iintro ⟨H10, HzR, HO⟩
  ihave H10 := (Entails.of_eq (pay_recv1 m c)) $$ H10
  iapply (wp_load 𝒱₀ (c : Thread nD τ) none Set.univ (m := oM) (Finset.subset_univ _)) $$ Ho; iintro Ho
  iapply (wp_load 𝒱₀ (c : Thread nD τ) none Set.univ (m := r2M) (Finset.subset_univ _)) $$ H10; iintro H10
  iapply (wp_load 𝒱₀ (c : Thread nD τ) none Set.univ (m := oM) (Finset.subset_univ _)) $$ Ho; iintro Ho
  iapply (wp_store 𝒱₀ (c : Thread nD τ) none Set.univ (m := oM) (r := w45 c) (Mk := Finset.univ) (Finset.subset_univ _)) $$ Ho; iintro Ho
  iapply (wp_load 𝒱₀ (c : Thread nD τ) none Set.univ (m := oM) (Finset.subset_univ _)) $$ Ho; iintro Ho
  iapply (wp_load 𝒱₀ (c : Thread nD τ) none Set.univ (m := s3M) (Finset.subset_univ _)) $$ H8; iintro H8
  iapply (wp_store 𝒱₀ (c : Thread nD τ) none Set.univ (m := s3M) (r := Rect.unit (s := S64x1024) ![0, 0] S64x1024.size inb_S64x1024_S64x1024_0_0) (Mk := Finset.univ) (Finset.subset_univ _)) $$ H8; iintro H8
  rw [write_s3, read_store_o (w45 c), read_store_o (w45 c), read_store_o (w45 c), read_w44 c (ctxC m c) fc hfc, read_wo, read_r2]
  ihave H8s := (pointsTo_share (PosShare.mem_left_op_right fullShare)).1 $$ H8
  icases H8s with ⟨H8l, H8r⟩
  iapply (send_round m K c _ 2 (dev5_eq c) 4 rfl (src := s3M) (dst := r3M) (q := fullShare.left) (fs := s3C m c) (fd := f11) (Ss := Finset.univ) (Sd := Finset.univ)
      (View.set_whole _) (View.set_whole _) rfl .refl
      (by
        unfold pay tgt; rw [pb_pb]
        exact Entails.of_eq (congrArg (own (pb c) cc0_scratch11) (View.write_whole_univ cc0_scratch11 f11 (s3C m c))))) $$ [H8l H11 HO Ht1 Ht2]
  · isplitr; · iexact HR
    isplitl [H8l]; · iexact H8l
    isplitl [H11]; · iexact H11
    isplitl [HO]; · iexact HO
    isplitl [Ht1]; · iexact Ht1
    iexact Ht2
  iintro ⟨Hcr2, HO⟩
  iapply (send_round m K c _ 3 (dev6_eq c) 5 rfl (src := s3M) (dst := r4a c) (q := fullShare.right) (fs := s3C m c) (fd := f12) (Ss := Finset.univ) (Sd := (r4a c).view.set)
      (View.set_whole _) rfl (credit_a c) .refl
      (by
        have h := r4a_lands m (pa c) f12
        rw [pa_pa] at h
        unfold pay tgt; rw [pa_pa]
        exact Entails.of_eq (pointsTo_congr h))) $$ [H8r H12 HO Ht3 Ht4]
  · isplitr; · iexact HR
    isplitl [H8r]; · iexact H8r
    isplitl [H12]; · iexact H12
    isplitl [HO]; · iexact HO
    isplitl [Ht3]; · iexact Ht3
    iexact Ht4
  iintro ⟨Hcr3, HO⟩
  unfold runs; rw [wp_ret]; imodintro
  iapply Hk
  isplitl [Hw]; · iexact Hw
  isplitl [Hc]
  · iexists fc
    isplitr; · (ipureintro; exact hfc)
    iexact Hc
  isplitl [Ho]; · iexists _; iexact Ho
  isplitl [H9]; · iexact H9
  isplitl [HO]; · iexact HO
  isplitl [H7]; · iexact H7
  isplitl [HzS]; · iexact HzS
  isplitl [H10]; · iexact H10
  isplitl [HzR]; · iexact HzR
  isplitl [Hcr2]; · iexact Hcr2
  iexact Hcr3

/-- Round 4: what round 3 brought goes on to `pa`; all rows are written out. -/
theorem runs_round4 (K : Dev nD × CK → ℕ) (c : Dev nD) (Kt : PUnit → sProp 𝕄) :
    iprop((records m K ∗ levAts L lv
          ∗ (∃ f, own c cc0_stg1_0 ((oM.access (w45 c) : View sig .tc _ _ _).write (Elt F) f (a3C m c) Finset.univ)) ∗ owing c 6
          ∗ (cred (tallyAt (sendCell 2 c) () (credit 2)) ∗ atPos ER (sendCell 2 c) 0 ∅ 0)
          ∗ (cred (tallyAt (recvCell 2 c) () (credit 2)) ∗ atPos ER (recvCell 2 c) 0 ∅ 0)
          ∗ (cred (tallyAt (sendCell 3 c) () (credit 3)) ∗ atPos ER (sendCell 3 c) 0 ∅ 0)
          ∗ (cred (tallyAt (recvCell 3 c) () (credit 3)) ∗ atPos ER (recvCell 3 c) 0 ∅ 0)
          ∗ atPos ER (sendCell 4 c) 0 ∅ 0
          ∗ (cred (tallyAt (recvCell 4 c) () (credit 4)) ∗ atPos ER (recvCell 4 c) 0 ∅ 0)
          ∗ (∃ f, r4At (pa c) (r4b c).view.set f)
          ∗ dutyTok ER (sendCell 4 c) 0 false ∗ dutyTok ER (recvCell 4 (pa c)) 0 false)
        ∗ ((own c cc0_stg1_0 (outC m c) ∗ owing c 7 ∗ own c cc0_scratch8 (s3C m c) ∗ own c cc0_scratch11 (s3C m (pb c)) ∗ own c cc0_scratch12 (r4C m c)
            ∗ semVal ((c : Thread nD τ), .dma (semS 2)) 0 ∗ semVal ((c : Thread nD τ), .dma (semR 2)) 0
            ∗ semVal ((c : Thread nD τ), .dma (semS 3)) 0 ∗ semVal ((c : Thread nD τ), .dma (semR 3)) 0
            ∗ semVal ((c : Thread nD τ), .dma (semS 4)) 0 ∗ semVal ((c : Thread nD τ), .dma (semR 4)) 0) -∗ Kt ⟨⟩))
      ⊢ runs c (round4 c) Kt := by
  unfold round4
  simp only [Prog.lift, Prog.bind_op, Prog.bind_ret]
  iintro ⟨⟨#HR, #Hlev, ⟨%fo, Ho⟩, HO, ⟨HcS2, HaS2⟩, ⟨HcR2, HaR2⟩, ⟨HcS3, HaS3⟩, ⟨HcR3, HaR3⟩, HaS4, ⟨HcR4, HaR4⟩, ⟨%f12, H12⟩, Ht1, Ht2⟩, Hk⟩
  iapply (wait_cell m K c false 2 6 0 (sem := semS 2) rfl (slev_S 2) (above_local c 6) credit_s3) $$ [HcS2 HaS2 HO]
  · isplitr; · iexact HR
    isplitr; · iexact Hlev
    isplitl [HcS2]; · iexact HcS2
    isplitl [HaS2]; · iexact HaS2
    iexact HO
  iintro ⟨H8l, HzS2, HO⟩
  ihave H8l := (Entails.of_eq (pay_send2 m c)) $$ H8l
  iapply (wait_cell m K c true 2 6 4 (sem := semR 2) rfl (by decide) (above_r2 c) rfl) $$ [HcR2 HaR2 HO]
  · isplitr; · iexact HR
    isplitr; · iexact Hlev
    isplitl [HcR2]; · iexact HcR2
    isplitl [HaR2]; · iexact HaR2
    iexact HO
  iintro ⟨H11, HzR2, HO⟩
  ihave H11 := (Entails.of_eq (pay_recv2 m c)) $$ H11
  iapply (wp_load 𝒱₀ (c : Thread nD τ) none Set.univ (m := r3M) (Finset.subset_univ _)) $$ H11; iintro H11
  iapply (wp_load 𝒱₀ (c : Thread nD τ) none Set.univ (m := oM) (Finset.subset_univ _)) $$ Ho; iintro Ho
  iapply (wp_store 𝒱₀ (c : Thread nD τ) none Set.univ (m := oM) (r := w34 c) (Mk := Finset.univ) (Finset.subset_univ _)) $$ Ho; iintro Ho
  rw [read_r3]
  iapply (send_round m K c _ 4 (dev7_eq c) 6 rfl (src := r3M) (dst := r4b c) (q := fullShare) (fs := s3C m (pb c)) (fd := f12) (Ss := Finset.univ) (Sd := (r4b c).view.set)
      (View.set_whole _) rfl (credit_b c) .refl
      (by
        have h := r4b_lands m (pa c) f12
        rw [pa_pa] at h
        unfold pay tgt; rw [pa_pa]
        exact Entails.of_eq (pointsTo_congr h))) $$ [H11 H12 HO Ht1 Ht2]
  · isplitr; · iexact HR
    isplitl [H11]; · iexact H11
    isplitl [H12]; · iexact H12
    isplitl [HO]; · iexact HO
    isplitl [Ht1]; · iexact Ht1
    iexact Ht2
  iintro ⟨HcS4, HO⟩
  iapply (wait_cell m K c false 3 7 0 (sem := semS 3) rfl (slev_S 3) (above_done c 0) credit_s3') $$ [HcS3 HaS3 HO]
  · isplitr; · iexact HR
    isplitr; · iexact Hlev
    isplitl [HcS3]; · iexact HcS3
    isplitl [HaS3]; · iexact HaS3
    iexact HO
  iintro ⟨H8r, HzS3, HO⟩
  ihave H8r := (Entails.of_eq (pay_send3 m c)) $$ H8r
  iapply (wait_cell m K c true 3 7 5 (sem := semR 3) rfl (by decide) (above_done c 5) (credit_a c)) $$ [HcR3 HaR3 HO]
  · isplitr; · iexact HR
    isplitr; · iexact Hlev
    isplitl [HcR3]; · iexact HcR3
    isplitl [HaR3]; · iexact HaR3
    iexact HO
  iintro ⟨H12a, HzR3, HO⟩
  ihave H12a := (Entails.of_eq (pay_recv3 m c)) $$ H12a
  iapply (wait_cell m K c false 4 7 0 (sem := semS 4) rfl (slev_S 4) (above_done c 0) credit_r3) $$ [HcS4 HaS4 HO]
  · isplitr; · iexact HR
    isplitr; · iexact Hlev
    isplitl [HcS4]; · iexact HcS4
    isplitl [HaS4]; · iexact HaS4
    iexact HO
  iintro ⟨H11, HzS4, HO⟩
  ihave H11 := (Entails.of_eq (pay_send4 m c)) $$ H11
  iapply (wait_cell m K c true 4 7 5 (sem := semR 4) rfl (by decide) (above_done c 5) (credit_b c)) $$ [HcR4 HaR4 HO]
  · isplitr; · iexact HR
    isplitr; · iexact Hlev
    isplitl [HcR4]; · iexact HcR4
    isplitl [HaR4]; · iexact HaR4
    iexact HO
  iintro ⟨H12b, HzR4, HO⟩
  ihave H12b := (Entails.of_eq (pay_recv4 m c)) $$ H12b
  ihave H12 := (pointsTo_union (ℓ := (c : Thread nD τ).loc cc0_scratch12) (halves_disjoint (pa c))).2 $$ [H12a H12b]
  · isplitl [H12a]; · iexact H12a
    iexact H12b
  rw [halves_union]
  ihave H8 := (pointsTo_share (PosShare.mem_left_op_right fullShare)).2 $$ [H8l H8r]
  · isplitl [H8l]; · iexact H8l
    iexact H8r
  iapply (wp_load 𝒱₀ (c : Thread nD τ) none Set.univ (m := r4M) (Finset.subset_univ _)) $$ H12; iintro H12
  iapply (wp_load 𝒱₀ (c : Thread nD τ) none Set.univ (m := oM) (Finset.subset_univ _)) $$ Ho; iintro Ho
  iapply (wp_store 𝒱₀ (c : Thread nD τ) none Set.univ (m := oM) (r := w24 c) (Mk := Finset.univ) (Finset.subset_univ _)) $$ Ho; iintro Ho
  rw [read_r4]
  rw [wp_ret]; imodintro
  iapply Hk
  isplitl [Ho]
  · iapply (Entails.of_eq (congrArg (own c cc0_stg1_0) (out_eq c fo (xC m c) (a3C m c) (k0_pay62 (s3C m (pb c))) (k0_pay1 (k0_pay63 (r4C m c))))))
    iexact Ho
  isplitl [HO]; · iexact HO
  isplitl [H8]; · iexact H8
  isplitl [H11]; · iexact H11
  isplitl [H12]; · iexact H12
  isplitl [HzS2]; · iexact HzS2
  isplitl [HzR2]; · iexact HzR2
  isplitl [HzS3]; · iexact HzS3
  isplitl [HzR3]; · iexact HzR3
  isplitl [HzS4]; · iexact HzS4
  iexact HzR4

end Cert.KernelIdealProof

end
-- ==== Proof.KernelIdeal.Body.lean ====
/- The whole body of one device, from what it starts with to what it ends with. -/
module

public import proofs.«01_k».proof.Proof.KernelIdeal.Talk

@[expose] public section

set_option maxRecDepth 16384

noncomputable section

namespace Cert.KernelIdealProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ
local notation "ℙ" => Prog (TpuEff nD τ sig (Elt F) Λ₀ Proc.tc)

variable (m : (ℓ : Loc nD τ sig) → Buf (Elt F) ℓ)

/-! ## What a device holds before and after -/

/-- The gathered keys and values before anything is copied: by slot and tile. -/
theorem tiles_of_any (c : Dev nD) : iprop(ownAny (F := F) c cc0_scratch2 ∗ ownAny c cc0_scratch3)
    ⊢ bigSep Finset.univ (fun s : Fin 4 => bigSep Finset.univ (tilesAny (F := F) c s)) := by
  have hk (f : Buf (Elt F) ((c : Thread nD τ).loc cc0_scratch2)) : ((((c : Thread nD τ).loc cc0_scratch2) ↦{fullShare} f) : sProp 𝕄)
      = bigSep Finset.univ (fun s : Fin 4 => bigSep Finset.univ fun t : Fin 16 => tileK c s t f) := by
    rw [univ_slots, pointsTo_biUnion _ _ slotSet_disjoint]
    exact bigSep_congr fun s _ => by rw [slotSet_tiles, pointsTo_biUnion _ _ (tileSet_disjoint s)]
  have hv (f : Buf (Elt F) ((c : Thread nD τ).loc cc0_scratch3)) : ((((c : Thread nD τ).loc cc0_scratch3) ↦{fullShare} f) : sProp 𝕄)
      = bigSep Finset.univ (fun s : Fin 4 => bigSep Finset.univ fun t : Fin 16 => tileV c s t f) := by
    rw [univ_slots, pointsTo_biUnion _ _ slotSet_disjoint]
    exact bigSep_congr fun s _ => by rw [slotSet_tiles, pointsTo_biUnion _ _ (tileSet_disjoint s)]
  have hj (f : Buf (Elt F) ((c : Thread nD τ).loc cc0_scratch2)) (g : Buf (Elt F) ((c : Thread nD τ).loc cc0_scratch3)) (s : Fin 4) (t : Fin 16) :
      iprop(tileK c s t f ∗ tileV c s t g) ⊢ tilesAny (F := F) c s t := by
    iintro ⟨H1, H2⟩
    isplitl [H1]; · iexists f; iexact H1
    iexists g; iexact H2
  iintro ⟨⟨%f, H2⟩, ⟨%g, H3⟩⟩
  ihave K2 := (Entails.of_eq (hk f)) $$ H2
  ihave V3 := (Entails.of_eq (hv g)) $$ H3
  iapply (BIBase.Entails.trans (Entails.of_eq (bigSep_sep' _ _ _).symm) (bigSep_mono fun s _ =>
    BIBase.Entails.trans (Entails.of_eq (bigSep_sep' _ _ _).symm) (bigSep_mono fun t _ => hj f g s t)))
  isplitl [K2]; · iexact K2
  iexact V3

/-- The four slots together are the gathered keys and values. -/
theorem any_of_slots (c : Dev nD) : bigSep Finset.univ (slotDone m c) ⊢ iprop(ownAny (F := F) c cc0_scratch2 ∗ ownAny c cc0_scratch3) := by
  unfold slotDone
  rw [bigSep_sep', ← pointsTo_biUnion _ _ slotSet_disjoint, ← pointsTo_biUnion _ _ slotSet_disjoint, ← univ_slots]
  iintro ⟨H1, H2⟩
  isplitl [H1]; · iexists _; iexact H1
  iexists _; iexact H2

/-- The argument arrays that no window stages, as launched. -/
def args (c : Dev nD) : sProp 𝕄 :=
  iprop(arr c main_arg1 (wqA m c) ∗ arr c main_arg2 (kA m c) ∗ arr c main_arg3 (vA m c) ∗ arr c main_arg4 (woA m c))

/-- The semaphores of the local copies, at zero. -/
def localSems (c : Dev nD) : sProp 𝕄 :=
  iprop(semVal ((c : Thread nD τ), .dma semW) 0 ∗ semVal ((c : Thread nD τ), .dma semO) 0 ∗ bigSep Finset.univ (fun s : Fin 4 => semVal ((c : Thread nD τ), .dma (semKV s)) 0))

/-- The semaphores of the remote copies, at zero. -/
def farSems (c : Dev nD) : sProp 𝕄 :=
  bigSep Finset.univ (fun r : Fin 5 => iprop(semVal ((c : Thread nD τ), .dma (semS r)) 0 ∗ semVal ((c : Thread nD τ), .dma (semR r)) 0))

/-- A device's part in the rounds: its place at each of its cells, and the tokens of the payments that it makes. -/
def ghost (K : Dev nD × CK → ℕ) (c : Dev nD) : sProp 𝕄 :=
  iprop(records m K
    ∗ (atPos ER (barCell c) 0 ∅ 0 ∗ bigSep Finset.univ (fun r : Fin 5 => iprop(atPos ER (sendCell r c) 0 ∅ 0 ∗ atPos ER (recvCell r c) 0 ∅ 0)))
    ∗ (dutyTok ER (barCell (pa c)) 0 false ∗ dutyTok ER (barCell (pb c)) 0 true
      ∗ bigSep Finset.univ (fun r : Fin 5 => iprop(dutyTok ER (sendCell r c) 0 false ∗ dutyTok ER (recvCell r (tgt r c)) 0 false))))

/-- What others owe this device, at the start. -/
def dues (c : Dev nD) : sProp 𝕄 :=
  iprop(cred (tallyAt (barCell c) () 2) ∗ bigSep Finset.univ (fun r : Fin 5 => cred (tallyAt (recvCell r c) () (credit r))))

/-- What a device starts from, its scratch aside. -/
def start (c : Dev nD) : sProp 𝕄 :=
  iprop((∃ K, ghost m K c) ∗ localSems c ∗ dues c ∗ levAts L lv ∗ args m c)

/-- All scratch buffers, holding anything. -/
def scratch (c : Dev nD) : sProp 𝕄 :=
  iprop(ownAny c cc0_scratch0 ∗ ownAny c cc0_scratch1 ∗ ownAny c cc0_scratch2 ∗ ownAny c cc0_scratch3 ∗ ownAny c cc0_scratch4 ∗ ownAny c cc0_scratch5
    ∗ ownAny c cc0_scratch6 ∗ ownAny c cc0_scratch7 ∗ ownAny c cc0_scratch8 ∗ ownAny c cc0_scratch9 ∗ ownAny c cc0_scratch10 ∗ ownAny c cc0_scratch11
    ∗ ownAny c cc0_scratch12)

/-- What a device ends with, its scratch aside: all its semaphores at zero, the arguments as they were. -/
def done (c : Dev nD) : sProp 𝕄 :=
  iprop(semVal ((c : Thread nD τ), .reg semB) 0 ∗ localSems c ∗ farSems c ∗ args m c)

theorem bigSep_five (Φ : Fin 5 → sProp 𝕄) : bigSep Finset.univ Φ = iprop(Φ 0 ∗ Φ 1 ∗ Φ 2 ∗ Φ 3 ∗ Φ 4) := by
  rw [bigSep_univ_eq_bigSepL ([0, 1, 2, 3, 4] : List (Fin 5)) (by decide) (by decide), bigSepL_cons_cons, bigSepL_cons_cons, bigSepL_cons_cons, bigSepL_cons_cons, bigSepL_singleton]
  rfl

/-! ## The body -/

/-- The counters of the local copies, from their semaphores. -/
theorem open_batches (c : Dev nD) : localSems (F := F) c ⊢ |={Set.univ}=> iprop(wqFly m c 0 ∗ woFly m c 0 ∗ flying m c 0 0 0 ∗ flying m c 1 0 0 ∗ flying m c 2 0 0 ∗ flying m c 3 0 0) := by
  unfold localSems
  rw [bigSep_four]
  iintro ⟨HW, HO, H0, H1, H2, H3⟩
  imod (Transfers.batch_alloc' EC (c : Thread nD τ) (sm := .dma semW) () wqM.view.dmaCredit (fun _ : Fin 1 => own c cc0_scratch0 (wqC m c)) (E := Set.univ)) $$ HW with HW
  imod (Transfers.batch_alloc' EC (c : Thread nD τ) (sm := .dma semO) () woM.view.dmaCredit (fun _ : Fin 1 => own c cc0_scratch1 (woC m c)) (E := Set.univ)) $$ HO with HO
  imod (Transfers.batch_alloc' EC (c : Thread nD τ) (sm := .dma (semKV 0)) () tileN (landed m c 0) (E := Set.univ)) $$ H0 with H0
  imod (Transfers.batch_alloc' EC (c : Thread nD τ) (sm := .dma (semKV 1)) () tileN (landed m c 1) (E := Set.univ)) $$ H1 with H1
  imod (Transfers.batch_alloc' EC (c : Thread nD τ) (sm := .dma (semKV 2)) () tileN (landed m c 2) (E := Set.univ)) $$ H2 with H2
  imod (Transfers.batch_alloc' EC (c : Thread nD τ) (sm := .dma (semKV 3)) () tileN (landed m c 3) (E := Set.univ)) $$ H3 with H3
  imodintro
  isplitl [HW]; · iexact HW
  isplitl [HO]; · iexact HO
  isplitl [H0]; · iexact H0
  isplitl [H1]; · iexact H1
  isplitl [H2]; · iexact H2
  iexact H3

/-- A device's whole run: from its scratch, its part in the rounds and the staged activations to the result. -/
theorem runs_plan (c : Dev nD) (Kt : PUnit → sProp 𝕄) :
    iprop((start m c ∗ scratch c ∗ owing c 0 ∗ own c cc0_stg0_0 (xC m c) ∗ ownAny c cc0_stg1_0)
        ∗ ((done m c ∗ scratch c ∗ owing c 7 ∗ own c cc0_stg0_0 (xC m c) ∗ own c cc0_stg1_0 (outC m c)) -∗ Kt ⟨⟩))
      ⊢ runs c (planAt c) Kt := by
  unfold start scratch ghost dues args
  rw [bigSep_five, bigSep_five, bigSep_five]
  iintro ⟨⟨⟨⟨%K, #HR, ⟨HaB, ⟨HaS0, HaR0⟩, ⟨HaS1, HaR1⟩, ⟨HaS2, HaR2⟩, ⟨HaS3, HaR3⟩, ⟨HaS4, HaR4⟩⟩,
      HtA, HtB, ⟨HtS0, HtR0⟩, ⟨HtS1, HtR1⟩, ⟨HtS2, HtR2⟩, ⟨HtS3, HtR3⟩, ⟨HtS4, HtR4⟩⟩, HL, ⟨HcB, HcR0, HcR1, HcR2, HcR3, HcR4⟩, #Hlev, HA1, HA2, HA3, HA4⟩,
      ⟨H0, H1, H2, H3, H4, ⟨%f5, H5⟩, H6, H7, H8, H9, H10, H11, H12⟩, HO, Hx, Hy⟩, Hk⟩
  imod (open_batches m c) $$ HL with ⟨HW, HWo, F0, F1, F2, F3⟩
  ihave HT := (tiles_of_any c) $$ [H2 H3]
  · isplitl [H2]; · iexact H2
    iexact H3
  unfold planAt
  simp only [wp_bind]
  -- the handshake
  iapply (runs_entry m K c)
  isplitl [HO HtA HtB HcB HaB H9 H10 H11 H12 HA1 HW H0]
  · isplitr; · iexact HR
    isplitr; · iexact Hlev
    isplitl [HO]; · iexact HO
    isplitl [HtA]; · iexact HtA
    isplitl [HtB]; · iexact HtB
    isplitl [HcB]; · iexact HcB
    isplitl [HaB]; · iexact HaB
    isplitl [H9]; · iexact H9
    isplitl [H10]; · iexact H10
    isplitl [H11]; · iexact H11
    isplitl [H12]; · iexact H12
    isplitl [HA1]; · iexact HA1
    isplitl [HW]; · iexact HW
    iexact H0
  iintro ⟨HO, Hpa, Hpb, HzB, HA1, HW⟩
  ihave Hpa := (show pay m c none false ⊢ iprop(ownAny (pa c) cc0_scratch9 ∗ (∃ f, r4At (pa c) (r4a c).view.set f) ∗ (∃ f, r4At (pa c) (r4b c).view.set f)) from .refl) $$ Hpa
  ihave Hpb := (show pay m c none true ⊢ iprop(ownAny (pb c) cc0_scratch10 ∗ ownAny (pb c) cc0_scratch11) from .refl) $$ Hpb
  icases Hpa with ⟨P9, P12a, P12b⟩
  icases Hpb with ⟨P10, P11⟩
  -- the local copies start
  iapply (runs_starts m c)
  isplitl [HA2 HA3 HA4 F0 F1 F2 F3 HWo HT H1]
  · isplitl [HA2]; · iexact HA2
    isplitl [HA3]; · iexact HA3
    isplitl [HA4]; · iexact HA4
    isplitl [F0 F1 F2 F3 HWo]
    · isplitl [F0]; · iexact F0
      isplitl [F1]; · iexact F1
      isplitl [F2]; · iexact F2
      isplitl [F3]; · iexact F3
      iexact HWo
    isplitl [HT]; · iexact HT
    iexact H1
  iintro ⟨HA2, HA3, HA4, F0, F1, F2, F3, HWo⟩
  -- the queries
  iapply (runs_queries m c _ (above_local c 2))
  isplitl [HW Hx H4 HO]
  · isplitl [HW]; · iexact HW
    isplitl [Hx]; · iexact Hx
    isplitl [H4]; · iexact H4
    isplitr; · iexact Hlev
    iexact HO
  iintro ⟨H0, HzW, Hx, H4, HO⟩
  -- slots 0 and 1
  iapply (runs_slot m c 0 _ (above_local c 2))
  isplitl [F0 H4 H5 HO]
  · isplitl [F0]; · iexact F0
    isplitl [H4]; · iexact H4
    isplitl [H5]
    · unfold ctxAt
      iexists f5
      isplitr; · (ipureintro; exact ctxDone_zero c (ctxC m c) f5)
      iexact H5
    isplitr; · iexact Hlev
    iexact HO
  iintro ⟨S0, Hz0, H4, H5, HO⟩
  iapply (runs_slot m c 1 _ (above_local c 2))
  isplitl [F1 H4 H5 HO]
  · isplitl [F1]; · iexact F1
    isplitl [H4]; · iexact H4
    isplitl [H5]; · iexact H5
    isplitr; · iexact Hlev
    iexact HO
  iintro ⟨S1, Hz1, H4, H5, HO⟩
  -- round 1
  iapply (runs_round1 m K c)
  isplitl [HWo H5 Hy H6 HO P9 HtS0 HtR0]
  · isplitr; · iexact HR
    isplitr; · iexact Hlev
    isplitl [HWo]; · iexact HWo
    isplitl [H5]; · iexact H5
    isplitl [Hy]; · iexact Hy
    isplitl [H6]; · iexact H6
    isplitl [HO]; · iexact HO
    isplitl [P9]; · iexact P9
    isplitl [HtS0]; · iexact HtS0
    iexact HtR0
  iintro ⟨H1, HzO, H5, Hy, HO, HcS0⟩
  -- slot 2
  iapply (runs_slot m c 2 _ (above_local c 3))
  isplitl [F2 H4 H5 HO]
  · isplitl [F2]; · iexact F2
    isplitl [H4]; · iexact H4
    isplitl [H5]; · iexact H5
    isplitr; · iexact Hlev
    iexact HO
  iintro ⟨S2, Hz2, H4, H5, HO⟩
  -- round 2
  iapply (runs_round2 m K c)
  isplitl [H1 H5 Hy HO HcS0 HaS0 HcR0 HaR0 H7 P10 HtS1 HtR1]
  · isplitr; · iexact HR
    isplitr; · iexact Hlev
    isplitl [H1]; · iexact H1
    isplitl [H5]; · iexact H5
    isplitl [Hy]; · iexact Hy
    isplitl [HO]; · iexact HO
    isplitl [HcS0]; · iexact HcS0
    isplitl [HaS0]; · iexact HaS0
    isplitl [HcR0]; · iexact HcR0
    isplitl [HaR0]; · iexact HaR0
    isplitl [H7]; · iexact H7
    isplitl [P10]; · iexact P10
    isplitl [HtS1]; · iexact HtS1
    iexact HtR1
  iintro ⟨H1, H5, Hy, HO, H6, HzS0, H9, HzR0, HcS1⟩
  -- slot 3
  iapply (runs_slot m c 3 _ (above_local c 4))
  isplitl [F3 H4 H5 HO]
  · isplitl [F3]; · iexact F3
    isplitl [H4]; · iexact H4
    isplitl [H5]; · iexact H5
    isplitr; · iexact Hlev
    iexact HO
  iintro ⟨S3, Hz3, H4, H5, HO⟩
  -- round 3
  iapply (runs_round3 m K c)
  isplitl [H1 H5 Hy H9 HO HcS1 HaS1 HcR1 HaR1 H8 P11 P12a HtS2 HtR2 HtS3 HtR3]
  · isplitr; · iexact HR
    isplitr; · iexact Hlev
    isplitl [H1]; · iexact H1
    isplitl [H5]; · iexact H5
    isplitl [Hy]; · iexact Hy
    isplitl [H9]; · iexact H9
    isplitl [HO]; · iexact HO
    isplitl [HcS1]; · iexact HcS1
    isplitl [HaS1]; · iexact HaS1
    isplitl [HcR1]; · iexact HcR1
    isplitl [HaR1]; · iexact HaR1
    isplitl [H8]; · iexact H8
    isplitl [P11]; · iexact P11
    isplitl [P12a]; · iexact P12a
    isplitl [HtS2]; · iexact HtS2
    isplitl [HtR2]; · iexact HtR2
    isplitl [HtS3]; · iexact HtS3
    iexact HtR3
  iintro ⟨H1, H5, Hy, H9, HO, H7, HzS1, H10, HzR1, HcS2, HcS3⟩
  -- round 4
  iapply (runs_round4 m K c)
  isplitl [Hy HO HcS2 HaS2 HcR2 HaR2 HcS3 HaS3 HcR3 HaR3 HaS4 HcR4 HaR4 P12b HtS4 HtR4]
  · isplitr; · iexact HR
    isplitr; · iexact Hlev
    isplitl [Hy]; · iexact Hy
    isplitl [HO]; · iexact HO
    isplitl [HcS2 HaS2]
    · isplitl [HcS2]; · iexact HcS2
      iexact HaS2
    isplitl [HcR2 HaR2]
    · isplitl [HcR2]; · iexact HcR2
      iexact HaR2
    isplitl [HcS3 HaS3]
    · isplitl [HcS3]; · iexact HcS3
      iexact HaS3
    isplitl [HcR3 HaR3]
    · isplitl [HcR3]; · iexact HcR3
      iexact HaR3
    isplitl [HaS4]; · iexact HaS4
    isplitl [HcR4 HaR4]
    · isplitl [HcR4]; · iexact HcR4
      iexact HaR4
    isplitl [P12b]; · iexact P12b
    isplitl [HtS4]; · iexact HtS4
    iexact HtR4
  iintro ⟨Hy, HO, H8, H11, H12, HzS2, HzR2, HzS3, HzR3, HzS4, HzR4⟩
  ihave HS := (any_of_slots m c) $$ [S0 S1 S2 S3]
  · rw [bigSep_four]
    isplitl [S0]; · iexact S0
    isplitl [S1]; · iexact S1
    isplitl [S2]; · iexact S2
    iexact S3
  icases HS with ⟨H2, H3⟩
  unfold ctxAt
  icases H5 with ⟨%g5, -, H5⟩
  iapply Hk
  isplitl [HzB HzW HzO Hz0 Hz1 Hz2 Hz3 HzS0 HzR0 HzS1 HzR1 HzS2 HzR2 HzS3 HzR3 HzS4 HzR4 HA1 HA2 HA3 HA4]
  · unfold done localSems farSems args
    rw [bigSep_four, bigSep_five]
    isplitl [HzB]; · iexact HzB
    isplitl [HzW HzO Hz0 Hz1 Hz2 Hz3]
    · isplitl [HzW]; · iexact HzW
      isplitl [HzO]; · iexact HzO
      isplitl [Hz0]; · iexact Hz0
      isplitl [Hz1]; · iexact Hz1
      isplitl [Hz2]; · iexact Hz2
      iexact Hz3
    isplitl [HzS0 HzR0 HzS1 HzR1 HzS2 HzR2 HzS3 HzR3 HzS4 HzR4]
    · isplitl [HzS0 HzR0]; · (isplitl [HzS0] <;> iassumption)
      isplitl [HzS1 HzR1]; · (isplitl [HzS1] <;> iassumption)
      isplitl [HzS2 HzR2]; · (isplitl [HzS2] <;> iassumption)
      isplitl [HzS3 HzR3]; · (isplitl [HzS3] <;> iassumption)
      isplitl [HzS4] <;> iassumption
    isplitl [HA1]; · iexact HA1
    isplitl [HA2]; · iexact HA2
    isplitl [HA3]; · iexact HA3
    iexact HA4
  isplitl [H0 H1 H2 H3 H4 H5 H6 H7 H8 H9 H10 H11 H12]
  · isplitl [H0]; · iexists _; iexact H0
    isplitl [H1]; · iexists _; iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12
  isplitl [HO]; · iexact HO
  isplitl [Hx]; · iexact Hx
  iexact Hy

end Cert.KernelIdealProof

end
-- ==== Proof.KernelIdeal.Run.lean ====
/- The launch: from the devices' memories and zero counters, through the body on every device, to the final memories. -/
module

public import proofs.«01_k».proof.Proof.KernelIdeal.Body
public import Idealize.ShloMosaic.Lib.Pipeline.CollectiveSegs

@[expose] public section

set_option maxRecDepth 16384

noncomputable section

namespace Cert.KernelIdealProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ
local notation "ℙ" => Prog (TpuEff nD τ sig (Elt F) Λ₀ Proc.tc)

variable (m : (ℓ : Loc nD τ sig) → Buf (Elt F) ℓ)

variable (ρ : Dev nD → PrngReg)

attribute [local irreducible] outC xC

/-! ## The pipeline's data and the body's obligation -/

/-- The one grid point's data: the activations come in, the result goes out. -/
def dats (_ : Fin 1) (c : Dev nD) : Dat τ (Elt F) Unit ℕ UU ℕ cfg0 c where
  A w := m ((cfg0.win w).arr.view.loc (c : Thread nD τ))
  after w _ := match w with
    | ⟨0, _⟩ => xC m c
    | ⟨1, _⟩ => outC m c
  Φ t := match t with
    | ⟨0, _⟩ => iprop(start m c ∗ scratch c)
    | ⟨_ + 1, _⟩ => iprop(done m c ∗ scratch c)
  q _ := fullShare
  owed t := match t with
    | ⟨0, _⟩ => owed c 0
    | ⟨_ + 1, _⟩ => 0

/-- The staging buffer `b` of device `c` holds `X`. -/
def stg (c : Dev nD) (b : Ref sig .tc) (X : Buf (Elt F) ((c : Thread nD τ).loc b)) : sProp 𝕄 :=
  iprop(∃ f : Buf (Elt F) ((c : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

/-- The staged activations, at the body's start. -/
theorem before_x (c : Dev nD) (d) : (dats m 0 c).before (0 : Fin 2) t0_0 d = xC m c := by
  unfold Dat.before; rw [if_pos (fetch0_0 t0_0)]; unfold xC; rfl

/-- What the body starts with. -/
def bodyPre (c : Dev nD) : sProp 𝕄 :=
  iprop((start m c ∗ scratch c) ∗ (dats m 0 c).owesAt () t0_0.castSucc
    ∗ (∃ d, stg c cc0_stg0_0 ((dats m 0 c).before (0 : Fin 2) t0_0 d)) ∗ (∃ d, stg c cc0_stg1_0 ((dats m 0 c).before (1 : Fin 2) t0_0 d)))
/-- What the body ends with. -/
def bodyPost (c : Dev nD) : sProp 𝕄 :=
  iprop((done m c ∗ scratch c) ∗ (dats m 0 c).owesAt () t0_0.succ ∗ stg c cc0_stg0_0 (xC m c) ∗ stg c cc0_stg1_0 (outC m c))

/-- The body from the one to the other. -/
theorem body_runs (c : Dev nD) : bodyPre m c ⊢ runs c (bodyAt0 (F := F) t0_0) (fun _ => bodyPost m c) := by
  rw [body_eq_plan]
  unfold plan
  simp only [Prog.lift, Prog.bind_op, Prog.bind_ret, Prog.pure_eq_ret]
  unfold runs
  rw [wp_deviceId]
  unfold bodyPre bodyPost stg Dat.owesAt Pipeline.owesWithin
  iintro ⟨⟨Hs, Hc⟩, ⟨%W, -, HO⟩, ⟨%d, ⟨%f, %hf, Hx⟩⟩, ⟨%d', ⟨%g, -, Hy⟩⟩⟩
  rw [before_x] at hf
  subst hf
  iapply (runs_plan m c fun _ => _)
  isplitl [Hs Hc HO Hx Hy]
  · isplitl [Hs]; · iexact Hs
    isplitl [Hc]; · iexact Hc
    isplitl [HO]; · iexists W; iexact HO
    isplitl [Hx]; · iexact Hx
    iexists g; iexact Hy
  iintro ⟨Hd, Hc, ⟨%W', HO⟩, Hx, Hy⟩
  isplitl [Hd Hc]
  · isplitl [Hd] <;> iassumption
  isplitl [HO]
  · iexists W'
    isplitr; · (ipureintro; exact fun _ _ => Or.inl trivial)
    iexact HO
  isplitl [Hx]
  · iexists _; isplitr; · (ipureintro; rfl)
    iexact Hx
  iexists _; isplitr; · (ipureintro; rfl)
  iexact Hy

theorem body_at : (defs₀ (F := F)) Proc.tc 0 (t0_0, cfg0.slots t0_0) = bodyAt0 (F := F) t0_0 := rfl
theorem phi_start (c : Dev nD) : (dats m 0 c).Φ t0_0.castSucc = iprop(start m c ∗ scratch c) := rfl
theorem phi_end (c : Dev nD) : (dats m 0 c).Φ t0_0.succ = iprop(done m c ∗ scratch c) := rfl
theorem after_x (c : Dev nD) : (dats m 0 c).after (0 : Fin 2) t0_0 = xC m c := rfl
theorem after_out (c : Dev nD) : (dats m 0 c).after (1 : Fin 2) t0_0 = outC m c := rfl

/-- The body's obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  rw [body_at, phi_start, phi_end, after_x, after_out]
  have h := body_runs m c
  unfold bodyPre bodyPost runs at h
  convert h using 2

/-! ## The cells and tokens at launch -/

/-- The kernel's own semaphores. -/
abbrev osem : Fin 16 → SemLoc sig
  | 0 => .dma semW | 1 => .dma semO
  | 2 => .dma (semKV 0) | 3 => .dma (semKV 1) | 4 => .dma (semKV 2) | 5 => .dma (semKV 3)
  | 6 => .dma (semS 0) | 7 => .dma (semS 1) | 8 => .dma (semS 2) | 9 => .dma (semS 3) | 10 => .dma (semS 4)
  | 11 => .dma (semR 0) | 12 => .dma (semR 1) | 13 => .dma (semR 2) | 14 => .dma (semR 3) | _ => .dma (semR 4)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × CK → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- All cells of the protocol. -/
def allCells : Finset (GSem nD τ sig) := Finset.univ.map ⟨kcell, kcell_injective⟩

/-- A cell's duty as a token of round 0. -/
abbrev tokOf (x : (Dev nD × CK) × Bool) : GSem nD τ sig × ℕ × Bool := (kcell x.1, 0, x.2)
theorem tokOf_injective : Function.Injective tokOf := by
  rintro ⟨ck, d⟩ ⟨ck', d'⟩ h
  have h1 : kcell ck = kcell ck' := congrArg Prod.fst h
  have h2 : d = d' := congrArg (fun x : GSem nD τ sig × ℕ × Bool => x.2.2) h
  rw [kcell_injective h1, h2]
/-- All tokens of the protocol. -/
def allToks : Finset (GSem nD τ sig × ℕ × Bool) := Finset.univ.map ⟨tokOf, tokOf_injective⟩

/-- The resources at launch: the pipeline's and the protocol's. -/
def u₀ : UU :=
  (initOf (Pipeline.cells cfgs cellOf_inj) (Pipeline.launchToks cfgs cellOf_inj), (initOf allCells allToks, 1))

/-- The tokens of device `c`'s own cells. -/
def toks (c : Dev nD) : sProp 𝕄 :=
  bigSep Finset.univ fun k : CK => bigSep Finset.univ fun d : Bool => dutyTok ER (kcell (c, k)) 0 d

/-- What the launch deals to device `c`. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)

/-- What the devices make of it together. -/
def G' (c : Dev nD) : sProp 𝕄 := iprop((∃ K, ghost m K c) ∗ localSems c)

theorem bigSep_CK (Φ : CK → sProp 𝕄) : bigSep Finset.univ Φ
    = iprop(Φ none ∗ bigSep Finset.univ (fun r : Fin 5 => Φ (some (false, r))) ∗ bigSep Finset.univ (fun r : Fin 5 => Φ (some (true, r)))) := by
  have e : bigSep Finset.univ Φ = iprop(Φ none ∗ Φ (some (false, 0)) ∗ Φ (some (false, 1)) ∗ Φ (some (false, 2)) ∗ Φ (some (false, 3)) ∗ Φ (some (false, 4)) ∗ Φ (some (true, 0)) ∗ Φ (some (true, 1)) ∗ Φ (some (true, 2)) ∗ Φ (some (true, 3)) ∗ Φ (some (true, 4))) :=
    (bigSep_univ_eq_bigSepL allCK (by decide) (by decide) Φ).trans (by unfold allCK; simp only [bigSepL_cons_cons, bigSepL_singleton]; rfl)
  rw [e, bigSep_five, bigSep_five]
  refine BI.Entails.antisymm (show (_ : sProp 𝕄) ⊢ _ from ?_) (show (_ : sProp 𝕄) ⊢ _ from ?_)
  · iintro ⟨H, A0, A1, A2, A3, A4, B0, B1, B2, B3, B4⟩
    isplitl [H]; · iexact H
    isplitl [A0 A1 A2 A3 A4]
    · isplitl [A0]; · iexact A0
      isplitl [A1]; · iexact A1
      isplitl [A2]; · iexact A2
      isplitl [A3] <;> iassumption
    isplitl [B0]; · iexact B0
    isplitl [B1]; · iexact B1
    isplitl [B2]; · iexact B2
    isplitl [B3] <;> iassumption
  · iintro ⟨H, ⟨A0, A1, A2, A3, A4⟩, B0, B1, B2, B3, B4⟩
    isplitl [H]; · iexact H
    isplitl [A0]; · iexact A0
    isplitl [A1]; · iexact A1
    isplitl [A2]; · iexact A2
    isplitl [A3]; · iexact A3
    isplitl [A4]; · iexact A4
    isplitl [B0]; · iexact B0
    isplitl [B1]; · iexact B1
    isplitl [B2]; · iexact B2
    isplitl [B3] <;> iassumption

theorem fund_all : BI.own (ER (initOf allCells allToks)) ⊢ (|==> bigSep Finset.univ (G (F := F) m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero: those of the local copies and those of the remote copies. -/
theorem ownSems0_split (c : Dev nD) : (Pipeline.ownSems0 (Ix := Unit) (Name := ℕ) (U := UU) (Lvl := ℕ) (Val := Elt F) (τ := τ) osem c : sProp 𝕄)
    = iprop(localSems c ∗ farSems c) := by
  have e : (Pipeline.ownSems0 (Ix := Unit) (Name := ℕ) (U := UU) (Lvl := ℕ) (Val := Elt F) (τ := τ) osem c : sProp 𝕄)
      = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0) :=
    (Pipeline.ownSems0_eq_of_list c osem [0, 1, 2, 3, 4, 5, 6, 7, 8, 9, 10, 11, 12, 13, 14, 15] (by decide) (by decide)).trans
      (by simp only [bigSepL_cons_cons, bigSepL_singleton]; rfl)
  rw [e]
  unfold localSems farSems
  rw [bigSep_four, bigSep_five]
  refine BI.Entails.antisymm (show (_ : sProp 𝕄) ⊢ _ from ?_) (show (_ : sProp 𝕄) ⊢ _ from ?_)
  · iintro ⟨HW, HO, K0, K1, K2, K3, S0, S1, S2, S3, S4, R0, R1, R2, R3, R4⟩
    isplitl [HW HO K0 K1 K2 K3]
    · isplitl [HW]; · iexact HW
      isplitl [HO]; · iexact HO
      isplitl [K0]; · iexact K0
      isplitl [K1]; · iexact K1
      isplitl [K2] <;> iassumption
    isplitl [S0 R0]; · (isplitl [S0] <;> iassumption)
    isplitl [S1 R1]; · (isplitl [S1] <;> iassumption)
    isplitl [S2 R2]; · (isplitl [S2] <;> iassumption)
    isplitl [S3 R3]; · (isplitl [S3] <;> iassumption)
    isplitl [S4] <;> iassumption
  · iintro ⟨⟨HW, HO, K0, K1, K2, K3⟩, ⟨S0, R0⟩, ⟨S1, R1⟩, ⟨S2, R2⟩, ⟨S3, R3⟩, ⟨S4, R4⟩⟩
    isplitl [HW]; · iexact HW
    isplitl [HO]; · iexact HO
    isplitl [K0]; · iexact K0
    isplitl [K1]; · iexact K1
    isplitl [K2]; · iexact K2
    isplitl [K3]; · iexact K3
    isplitl [S0]; · iexact S0
    isplitl [S1]; · iexact S1
    isplitl [S2]; · iexact S2
    isplitl [S3]; · iexact S3
    isplitl [S4]; · iexact S4
    isplitl [R0]; · iexact R0
    isplitl [R1]; · iexact R1
    isplitl [R2]; · iexact R2
    isplitl [R3] <;> iassumption

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg semB] (by decide) (by decide)]; rfl

/-- Every cell of a device at zero, from its semaphores. -/
theorem cells0 (c : Dev nD) : iprop(farSems (F := F) c ∗ unscopedSems0 c) ⊢ (bigSep Finset.univ fun k : CK => semVal (kcell (c, k)) 0 : sProp 𝕄) := by
  rw [unscopedSems0_eq, bigSep_CK]
  unfold farSems
  rw [bigSep_sep']
  iintro ⟨⟨HS, HR⟩, HB⟩
  isplitl [HB]; · iexact HB
  isplitl [HS] <;> iassumption

/-- A device's cells become invariants; its local semaphores stay. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ localSems c) := by
  rw [ownSems0_split]
  unfold G
  iintro ⟨⟨HL, HF⟩, Hus, Hst, Hat, Htok⟩
  ihave Hv := (cells0 (F := F) c) $$ [HF Hus]
  · isplitl [HF] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-- The tokens of the payments that device `c` makes. -/
def payToks (c : Dev nD) : sProp 𝕄 :=
  iprop(dutyTok ER (barCell (pa c)) 0 false ∗ dutyTok ER (barCell (pb c)) 0 true
    ∗ bigSep Finset.univ (fun r : Fin 5 => iprop(dutyTok ER (sendCell r c) 0 false ∗ dutyTok ER (recvCell r (tgt r c)) 0 false)))

/-- Of a device's tokens, those that someone pays. -/
theorem toks_used (c : Dev nD) : toks (F := F) c
    ⊢ iprop(dutyTok ER (barCell c) 0 false ∗ dutyTok ER (barCell c) 0 true
      ∗ bigSep Finset.univ (fun r : Fin 5 => dutyTok ER (sendCell r c) 0 false) ∗ bigSep Finset.univ (fun r : Fin 5 => dutyTok ER (recvCell r c) 0 false)) := by
  have hb (Φ : Bool → sProp 𝕄) : bigSep Finset.univ Φ = iprop(Φ false ∗ Φ true) :=
    bigSep_univ_eq_bigSepL [false, true] (by decide) (by decide) Φ
  unfold toks
  rw [bigSep_CK]
  simp only [hb, bigSep_sep']
  iintro ⟨⟨H1, H2⟩, ⟨H3, -⟩, H4, -⟩
  isplitl [H1]; · iexact H1
  isplitl [H2]; · iexact H2
  isplitl [H3] <;> iassumption

/-- The partner maps, as permutations of the devices. -/
def ea : Dev nD ≃ Dev nD := ⟨pa, pa, pa_pa, pa_pa⟩
def eb : Dev nD ≃ Dev nD := ⟨pb, pb, pb_pb, pb_pb⟩
/-- For every copy, sender and receiver exchanged. -/
def et : Dev nD × Fin 5 ≃ Dev nD × Fin 5 :=
  ⟨fun x => (tgt x.2 x.1, x.2), fun x => (tgt x.2 x.1, x.2), fun x => Prod.ext (tgt_tgt x.2 x.1) rfl, fun x => Prod.ext (tgt_tgt x.2 x.1) rfl⟩

/-- The tokens go to those who pay. -/
theorem toks_around : (bigSep Finset.univ fun c : Dev nD => toks (F := F) c) ⊢ bigSep Finset.univ fun c : Dev nD => payToks c := by
  refine BIBase.Entails.trans (bigSep_mono fun c _ => toks_used c) ?_
  unfold payToks
  simp only [bigSep_sep']
  rw [bigSep_univ_equiv ea (fun c : Dev nD => (dutyTok ER (barCell c) 0 false : sProp 𝕄)),
    bigSep_univ_equiv eb (fun c : Dev nD => (dutyTok ER (barCell c) 0 true : sProp 𝕄)),
    ← bigSep_univ_prod (fun x : Dev nD × Fin 5 => (dutyTok ER (recvCell x.2 x.1) 0 false : sProp 𝕄)),
    ← bigSep_univ_prod (fun x : Dev nD × Fin 5 => (dutyTok ER (recvCell x.2 (tgt x.2 x.1)) 0 false : sProp 𝕄)),
    bigSep_univ_equiv et (fun x : Dev nD × Fin 5 => (dutyTok ER (recvCell x.2 x.1) 0 false : sProp 𝕄))]
  exact .refl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What a device holds alone, under the records. -/
def alone (c : Dev nD) : sProp 𝕄 :=
  iprop((bigSep Finset.univ fun k : CK => atPos ER (kcell (c, k)) 0 ∅ 0) ∗ payToks c ∗ localSems c)

theorem ghost_intro (K : Dev nD × CK → ℕ) (c : Dev nD) : iprop(records m K ∗ alone c) ⊢ G' m c := by
  unfold alone payToks G' ghost
  rw [bigSep_CK]
  iintro ⟨HR, ⟨HB, HS, HV⟩, HT, HL⟩
  isplitr [HL]
  · iexists K
    isplitl [HR]; · iexact HR
    isplitl [HB HS HV]
    · isplitl [HB]; · iexact HB
      rw [bigSep_sep']
      isplitl [HS] <;> iassumption
    iexact HT
  iexact HL

/-- The devices' cells, regrouped: everyone knows all of them, and holds what it pays with. -/
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' (F := F) m) := by
  rw [bigSep_sep', bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, HL⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_with_persistent (R := records m K) (Φ := alone) fun c _ => ghost_intro m K c)
  isplitr
  · unfold records; isplitl; · iexact HI
    iexact HR
  · unfold alone
    rw [bigSep_sep', bigSep_sep']
    isplitl [Hat]; · iexact Hat
    isplitl [Htk]; · iexact Htk
    iexact HL

/-- All devices' semaphores at once become the protocol. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- What a list of payments owes a cell: a payment's units for each time that the cell occurs. -/
theorem owedL_at (l : List (Dev nD × CK)) (ck : Dev nD × CK) : owedL l (kcell ck) () = l.count ck * units ck.2 := by
  induction l with
  | nil => rw [List.count_nil, Nat.zero_mul]; rfl
  | cons p l ih =>
    unfold owedL
    rw [Pi.add_apply, Finsupp.add_apply, tallyAt_apply, ih, List.count_cons, Nat.add_mul]
    congr 1
    by_cases h : p = ck
    · subst h; rw [if_pos ⟨rfl, rfl⟩, if_pos (by simp), Nat.one_mul]
    · rw [if_neg fun h' => h (kcell_injective h'.1).symm, if_neg (by simpa using h), Nat.zero_mul]

/-- How often a cell of a kind is paid by others. -/
def times : CK → ℕ
  | none => 2
  | some (b, _) => if b then 1 else 0
theorem times_eq : ∀ (c : Dev nD) (k : CK), (∑ d : Dev nD, (payments d).count (c, k)) = times k := by decide

theorem launch_at (c : Dev nD) (k : CK) :
    tallyOn (kcell (c, k)) (launchCredit (Pipeline.owing fun d => owed d 0) 0 (kcell (c, k))) = (tallyAt (kcell (c, k)) () (times k * units k) : CellTallies nD τ sig Unit) := by
  unfold tallyAt; refine congrArg _ (Finsupp.ext fun u => ?_); cases u
  rw [Pipeline.launchCredit_owing, Finsupp.single_eq_same, Finset.sum_congr rfl fun d _ => owedL_at ((payments d).drop 0) (c, k), ← Finset.sum_mul]
  exact congrArg (· * units k) (times_eq c k)

theorem creds (c : Dev nD) : (Pipeline.launchCred (fun d => owed d 0) c : sProp 𝕄) ⊢ dues (F := F) c := by
  unfold Pipeline.launchCred
  refine BIBase.Entails.trans (bigSep_subset (Finset.subset_univ (Finset.univ.map ⟨csem, csem_injective⟩))) ?_
  rw [bigSep_map]
  refine BIBase.Entails.trans (Entails.of_eq (bigSep_congr (fun k _ => congrArg cred (launch_at c k)))) ?_
  rw [bigSep_CK]
  unfold dues
  iintro ⟨H, -, HR⟩
  isplitl [H]; · iexact H
  ihave HR := (Entails.of_eq (bigSep_congr (Ψ := fun r : Fin 5 => (cred (tallyAt (recvCell r c) () (credit r)) : sProp 𝕄)) fun r _ => by
    show cred (tallyAt _ _ (1 * credit r)) = _; rw [Nat.one_mul])) $$ HR
  iexact HR

/-! ## The sides of the launch -/

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' m c)
      ⊢ |={Set.univ}=> iprop(start m c ∗ emp) := by
  rw [Pipeline.unscopedRestP_none, unscopedRest0_eq]
  unfold start G' args
  iintro ⟨⟨H1, H2, H3, H4⟩, Hlev, Hcr, -, HG, HL⟩
  ihave Hc := (creds (F := F) c) $$ Hcr
  imodintro
  isplitl
  · isplitl [HG]; · iexact HG
    isplitl [HL]; · iexact HL
    isplitl [Hc]; · iexact Hc
    isplitl [Hlev]; · iexact Hlev
    isplitl [H1]; · iexists fullShare; iexact H1
    isplitl [H2]; · iexists fullShare; iexact H2
    isplitl [H3]; · iexists fullShare; iexact H3
    iexists fullShare; iexact H4
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  iintro ⟨Hs, -, Hr⟩
  isplitl [Hs]; · iexact Hs
  unfold scratch; iexact Hr

theorem phi1_exit (c : Dev nD) :
    (dats m 0 c).Φ (Fin.last cfg0.N) ⊢ iprop((unscopedSems0 c ∗ args m c) ∗ Pipeline.ownSems0 osem c ∗ Pipeline.scopedRest cfg0.spec c) := by
  rw [show (dats m 0 c).Φ (Fin.last cfg0.N) = iprop(done m c ∗ scratch c) from rfl, scopedRest0_eq, ownSems0_split, unscopedSems0_eq]
  unfold done
  iintro ⟨⟨HB, HL, HF, HA⟩, Hr⟩
  isplitl [HB HA]
  · isplitl [HB] <;> iassumption
  isplitl [HL HF]
  · isplitl [HL] <;> iassumption
  unfold scratch; iexact Hr

theorem waits (c : Dev nD) : (levAts L lv : sProp 𝕄) ⊢ Pipeline.cellsWaits cfgs (dats m) () 0 c :=
  Pipeline.cellsWaits_intro cfgs (dats m) () 0 c fun w s t => by
    have h0 : slev (SemLoc.dma ((cfg0.win w).sem s)) = 0 := by fin_cases w <;> fin_cases s <;> decide
    rcases t with ⟨_ | _, ht⟩
    · exact mayWait c _ (payments c) 0 h0 (by revert c; decide)
    · exact mayWait c _ [] 0 h0 rfl

/-- What a device's unstaged arguments hold at the end. -/
theorem args_read (c : Dev nD) (s' : Phys nD τ sig (Elt F)) :
    iprop(args m c ∗ SI s') ⊢ iprop(⌜s'.mem.mem ((c : Thread nD τ).loc main_arg1) = m ((c : Thread nD τ).loc main_arg1)
      ∧ s'.mem.mem ((c : Thread nD τ).loc main_arg2) = m ((c : Thread nD τ).loc main_arg2)
      ∧ s'.mem.mem ((c : Thread nD τ).loc main_arg3) = m ((c : Thread nD τ).loc main_arg3)
      ∧ s'.mem.mem ((c : Thread nD τ).loc main_arg4) = m ((c : Thread nD τ).loc main_arg4)⌝ ∗ (SI s' : sProp 𝕄)) := by
  unfold args
  iintro ⟨⟨⟨%q1, H1⟩, ⟨%q2, H2⟩, ⟨%q3, H3⟩, ⟨%q4, H4⟩⟩, HSI⟩
  icombine HSI H1 gives %h1
  icombine HSI H2 gives %h2
  icombine HSI H3 gives %h3
  icombine HSI H4 gives %h4
  isplitr
  · ipureintro
    exact ⟨Buf.eq_of_forall_mem_univ h1, Buf.eq_of_forall_mem_univ h2, Buf.eq_of_forall_mem_univ h3, Buf.eq_of_forall_mem_univ h4⟩
  iexact HSI

/-! ## The run -/

/-- What the devices' memories hold at the end: the computed results, and the arguments as launched. -/
def Final (r : PUnit × MemSt nD τ sig (Elt F)) : Prop := ∀ c : Dev nD,
  r.2.mem ((c : Thread nD τ).loc main_v1) = outC m c
  ∧ r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)

/-- The activations are only read. -/
theorem final_x (c : Dev nD) : (dats m 0 c).arrAt (0 : Fin 2) cfg0.N = m ((c : Thread nD τ).loc main_arg0) :=
  (dats (F := F) m 0 c).arrAt_in (0 : Fin 2) rfl _

/-- The result array ends at what the body computes. -/
theorem final_out (c : Dev nD) : (dats m 0 c).arrAt (1 : Fin 2) cfg0.N = outC m c := by
  have h : (win0_1.blk (0 : Fin 1)).view.read (Elt F) ((dats m 0 c).arrAt (1 : Fin 2) cfg0.N) = outC m c := by
    rw [show cfg0.N = (t0_0 : Fin cfg0.N).val + 1 from rfl, (dats m 0 c).arrAt_succ (1 : Fin 2) t0_0, if_pos (flush0_1 t0_0)]
    exact View.read_write_univ _ _
  exact (Memref.read_access_unit_zero (Elt F) main_v1 (funext fun a => by fin_cases a <;> rfl) _ _).symm.trans h

/-- From any memory with all counters zero, every weakly fair run of the four devices ends, with each device's result
    at the computed contents, the arguments as launched, and every semaphore counter at zero. -/
theorem run_main : θ_run defs (onTc (τ := τ) (main (F := F))) ⟨m, fun _ => 0, ρ⟩ (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := fun d => owed d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HX, -⟩
      imod (fund_all m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4))
    (hY := fun c s' => by
      iintro ⟨⟨Hu, HA⟩, -, HSI⟩
      ihave H := (args_read m c s') $$ [HA HSI]
      · isplitl [HA] <;> iassumption
      icases H with ⟨%h, HSI⟩
      imod (Pipeline.unscopedSems0_read (X := unscopedSems0 c) (c := c) fupd_intro s') $$ [Hu HSI] with ⟨%hz, HSI⟩
      · isplitl [Hu] <;> iassumption
      imodintro
      isplitr
      · ipureintro; exact ⟨hz, h⟩
      iexact HSI)
    (hQ := fun _ h hs => ⟨fun c => ⟨((h c).1 (1 : Fin 2)).trans (final_out m c), ((h c).1 (0 : Fin 2)).trans (final_x m c), (h c).2.2.2⟩,
      sem_eq_zero hs fun c => (h c).2.2.1⟩)

end Cert.KernelIdealProof

end
-- ==== Proof.Value.Softmax.lean ====
/- A softmax over the extended reals in which some of the scores are −∞ is the softmax over the others. -/
module

public import Idealize.ShloMosaic.PureOps.Ideal
public import Idealize.ShloMosaic.PureOps.Ideal.Laws
public import Idealize.ShloMosaic.Lib.IdealHost

@[expose] public section

noncomputable section

namespace Cert.ValueProof

open Idealize.ShloMosaic
open scoped BigOperators

/-- The extended real is a real number. -/
def IsReal (a : EReal) : Prop := ∃ y : ℝ, a = (y : EReal)

/-- The product of two reals is real. -/
theorem IsReal.mul {a b : EReal} (ha : IsReal a) (hb : IsReal b) : IsReal (a * b) := by
  obtain ⟨y, rfl⟩ := ha
  obtain ⟨z, rfl⟩ := hb
  exact ⟨y * z, (EReal.coe_mul y z).symm⟩

/-- A finite sum of real numbers, taken over the extended reals, is their real sum. -/
theorem sum_coe {α : Type*} (s : Finset α) (f : α → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem IsReal.sum {α : Type*} (s : Finset α) {f : α → EReal} (hf : ∀ i, IsReal (f i)) : IsReal (∑ i ∈ s, f i) := by
  choose g hg using hf
  exact ⟨∑ i ∈ s, g i, by rw [← sum_coe]; exact Finset.sum_congr rfl fun i _ => hg i⟩

/-- A real factor on the left operand of a product sum comes out of the sum. -/
theorem sum_scale {α : Type*} [Fintype α] {q k : α → EReal} {s : EReal} (hq : ∀ d, IsReal (q d)) (hk : ∀ d, IsReal (k d))
    (hs : IsReal s) : ∑ d, (q d * s) * k d = (∑ d, q d * k d) * s := by
  choose q' hq using hq
  choose k' hk using hk
  obtain ⟨s', rfl⟩ := hs
  simp only [hq, hk, ← EReal.coe_mul, sum_coe, Finset.sum_mul]
  exact congrArg _ (Finset.sum_congr rfl fun d _ => by ring)

/-- The scale of the scores is a real number. -/
theorem isReal_scale : IsReal (Ideal.ofBits .f32 1035273459#32) := by
  refine ⟨11863283 / 134217728, ?_⟩
  simp [Ideal.ofBits, Ideal.ieee, -EReal.coe_mul]
  norm_num

/-- The pattern the maximum starts from is −∞. -/
theorem ofBits_negInf : Ideal.ofBits .f32 4286578688#32 = ⊥ := by
  simp [Ideal.ofBits, Ideal.ieee]

/-- The weight of key `j` among the scores `t`. -/
def weight {α : Type*} [Fintype α] (t : α → EReal) (j : α) : EReal :=
  Ideal.div (Ideal.exp (t j - Finset.univ.fold max ⊥ t)) (∑ i, Ideal.exp (t i - Finset.univ.fold max ⊥ t))

section
variable {α β : Type*} [Fintype α] [Fintype β] [Nonempty β]

/-- The greatest of finitely many reals is real. -/
theorem isReal_max {t : β → EReal} (ht : ∀ r, IsReal (t r)) : IsReal (Finset.univ.fold max ⊥ t) := by
  obtain ⟨r, _, hr⟩ := Finset.exists_mem_eq_sup (Finset.univ : Finset β) Finset.univ_nonempty t
  exact ⟨(ht r).choose, Eq.trans hr (ht r).choose_spec⟩

/-- The sum of the exponentials of finitely many reals is a real above zero. -/
theorem sum_exp {t : β → EReal} (ht : ∀ r, IsReal (t r)) {M : EReal} (hM : IsReal M) :
    ∃ L : ℝ, 0 < L ∧ ∑ r, Ideal.exp (t r - M) = (L : EReal) := by
  choose y hy using ht
  obtain ⟨m, rfl⟩ := hM
  refine ⟨∑ r, Real.exp (y r - m), Finset.sum_pos (fun r _ => Real.exp_pos _) Finset.univ_nonempty, ?_⟩
  rw [← sum_coe]
  exact Finset.sum_congr rfl fun r _ => by rw [hy r, ← EReal.coe_sub, Ideal.exp_coe]

/-- Scores that are −∞ off the image of `key` have the maximum of the scores on it. -/
theorem max_masked {t : α → EReal} {key : β → α} (hoff : ∀ j, (∀ r, key r ≠ j) → t j = ⊥) :
    Finset.univ.fold max ⊥ t = Finset.univ.fold max ⊥ (fun r => t (key r)) := by
  show Finset.univ.sup t = Finset.univ.sup (fun r => t (key r))
  apply le_antisymm
  · refine Finset.sup_le fun j _ => ?_
    by_cases h : ∃ r, key r = j
    · obtain ⟨r, rfl⟩ := h
      exact Finset.le_sup (f := fun r => t (key r)) (Finset.mem_univ r)
    · rw [hoff j fun r hr => h ⟨r, hr⟩]
      exact bot_le
  · exact Finset.sup_le fun r _ => Finset.le_sup (f := t) (Finset.mem_univ (key r))

/-- Where every score off the image of `key` is −∞ and every score on it real, the values weighted over all the
    scores are those weighted over the scores on the image. -/
theorem softmax_masked {t : α → EReal} {key : β → α} (hinj : Function.Injective key)
    (hoff : ∀ j, (∀ r, key r ≠ j) → t j = ⊥) (hon : ∀ r, IsReal (t (key r))) (V : α → EReal) :
    ∑ j, V j * weight t j = ∑ r, weight (fun r => t (key r)) r * V (key r) := by
  have hM := isReal_max hon
  obtain ⟨L, hL, hsum⟩ := sum_exp hon hM
  have hzero : ∀ j, (∀ r, key r ≠ j) → Ideal.exp (t j - Finset.univ.fold max ⊥ (fun r => t (key r))) = 0 := by
    intro j hj
    obtain ⟨m, hm⟩ := hM
    rw [hoff j hj, hm, EReal.bot_sub, Ideal.exp_bot]
  have hden : ∑ i, Ideal.exp (t i - Finset.univ.fold max ⊥ (fun r => t (key r))) =
      ∑ r, Ideal.exp (t (key r) - Finset.univ.fold max ⊥ (fun r => t (key r))) :=
    (Finset.sum_of_injOn key hinj.injOn (fun _ _ => Finset.mem_univ _)
      (fun j _ hj => hzero j fun r hr => hj ⟨r, Finset.mem_coe.2 (Finset.mem_univ r), hr⟩) fun _ _ => rfl).symm
  refine (Finset.sum_of_injOn key hinj.injOn (fun _ _ => Finset.mem_univ _) (fun j _ hj => ?_) fun r _ => ?_).symm
  · unfold weight
    rw [max_masked hoff, hden, hsum, hzero j fun r hr => hj ⟨r, Finset.mem_coe.2 (Finset.mem_univ r), hr⟩,
      Ideal.div_coe hL.ne', zero_mul, mul_zero]
  · unfold weight
    rw [max_masked hoff, hden, mul_comm]

end

end Cert.ValueProof

end
-- ==== Proof.Value.Kernel.lean ====
/- What a device computes by itself over the extended reals: its part of the result, element by element. -/
module

public import proofs.«01_k».proof.Proof.KernelIdeal.Contents
public import proofs.«01_k».proof.Proof.Value.Softmax
public import Idealize.ShloMosaic.Lib.Pointwise
public import Idealize.ShloMosaic.Lib.Pointwise.IndexBridge

@[expose] public section

set_option maxRecDepth 16384

noncomputable section

namespace Cert.ValueProof

open Idealize.ShloMosaic Idealize.ShloMosaic.TcCoe Idealize.SL.Sem
open Cert.KernelIdeal Cert.KernelIdeal.Gen Cert.KernelIdealProof
open scoped BigOperators

/-- The scaled queries at an element. -/
theorem pay2_apply (x : Vec Ideal S1x256x1024 .f32) (w : Vec Ideal S1024x1024 .f32) (i : Fin 256) (n : Fin 1024) :
    k0_pay2 x w (ix2 i n) = (∑ k : Fin 1024, x (ix3 0 i k) * w (ix2 k n)) * Ideal.ofBits .f32 1035273459#32 := by
  pointwise [k0_pay2]

/-- A head's context at an element. -/
theorem pay3_apply (q : Vec Ideal S64x128 .f32) (k v : Vec Ideal S1x1024x1x128 .f32) (i : Fin 64) (n : Fin 128) :
    k0_pay3 q k v (ix2 i n) =
      ∑ r : Fin 1024, weight (fun r' : Fin 1024 => ∑ d : Fin 128, q (ix2 i d) * k (ix4 0 r' 0 d)) r * v (ix4 0 r 0 n) := by
  pointwise [k0_pay3]
  rw [ofBits_negInf]
  rfl

/-- The product that round 1 sends, at an element. -/
theorem pay31_apply (c : Vec Ideal S128x1024 .f32) (w : Vec Ideal S1024x1024 .f32) (r : Fin 128) (n : Fin 1024) :
    k0_pay31 (k0_pay30 (k0_pay29 c w)) (ix2 r n) = ∑ k : Fin 1024, c (ix2 r k) * w (ix2 k n) := by
  pointwise [k0_pay31, k0_pay30, k0_pay29]

/-- The product for the rows that round 2 sends, with what round 1 brought, at an element. -/
theorem pay45_apply (c : Vec Ideal S64x1024 .f32) (w : Vec Ideal S1024x1024 .f32) (b : Vec Ideal S64x1024 .bf16) (r : Fin 64) (n : Fin 1024) :
    k0_pay45 (k0_pay44 c w) b (ix3 0 r n) = (∑ k : Fin 1024, c (ix2 r k) * w (ix2 k n)) + b (ix2 r n) := by
  pointwise [k0_pay45, k0_pay44]

/-- What round 2 sends, at an element. -/
theorem pay46_apply (a : Vec Ideal S1x64x1024 .f32) (r : Fin 64) (n : Fin 1024) : k0_pay46 a (ix2 r n) = a (ix3 0 r n) := by
  pointwise [k0_pay46]

/-- The product for the rows that are completed, with what rounds 1 and 2 brought, at an element. -/
theorem pay60_apply (c : Vec Ideal S64x1024 .f32) (w : Vec Ideal S1024x1024 .f32) (b b' : Vec Ideal S64x1024 .bf16) (r : Fin 64) (n : Fin 1024) :
    k0_pay60 (k0_pay59 (k0_pay58 c w) b) b' (ix3 0 r n) = (∑ k : Fin 1024, c (ix2 r k) * w (ix2 k n)) + b (ix2 r n) + b' (ix2 r n) := by
  pointwise [k0_pay60, k0_pay59, k0_pay58]

/-- What rounds 3 and 4a send, at an element. -/
theorem pay61_apply (a : Vec Ideal S1x64x1024 .f32) (r : Fin 64) (n : Fin 1024) : k0_pay61 a (ix2 r n) = a (ix3 0 r n) := by
  pointwise [k0_pay61]

/-- What is stored of round 3, at an element. -/
theorem pay62_apply (b : Vec Ideal S64x1024 .bf16) (r : Fin 64) (n : Fin 1024) : k0_pay62 b (ix3 0 r n) = b (ix2 r n) := by
  pointwise [k0_pay62]

/-- What is stored of round 4, at an element. -/
theorem pay63_apply (b : Vec Ideal S128x1024 .bf16) (r : Fin 128) (n : Fin 1024) : k0_pay1 (k0_pay63 b) (ix3 0 r n) = b (ix2 r n) := by
  pointwise [k0_pay1, k0_pay63]

variable (m : (ℓ : Loc nD τ sig) → Buf (Elt Ideal) ℓ)

/-- A device's columns of the query weights start at 1024 times its number; its rows of the output weights too. -/
theorem off1_eq : ∀ d : Dev nD, k0_off1 d = ![0, 1024 * d.val] := by decide +kernel
theorem off6_eq : ∀ d : Dev nD, k0_off6 d = ![1024 * d.val, 0] := by decide +kernel

/-- The activations as staged are the argument. -/
theorem xC_apply (c : Dev nD) (i : Fin 256) (k : Fin 1024) : xC m c (ix3 0 i k) = m ((c : Thread nD τ).loc main_arg0) (ix3 0 i k) := by
  unfold xC
  rw [View.read_apply]
  refine congrArg (m ((c : Thread nD τ).loc main_arg0) : S1x256x1024.Idx → EReal) ?_
  funext a
  refine Fin.ext ?_
  match a with
  | ⟨0, _⟩ => rfl
  | ⟨1, _⟩ => show 0 * 256 + 1 * i.val = i.val; omega
  | ⟨2, _⟩ => show 0 * 1024 + 1 * k.val = k.val; omega

/-- A device's query weights at an element. -/
theorem wqC_apply (c : Dev nD) (k n : Fin 1024) (n' : Fin 4096) (hn : n'.val = 1024 * c.val + n.val) :
    wqC m c (ix2 k n) = m ((c : Thread nD τ).loc main_arg1) (ix2 k n') := by
  show m ((c : Thread nD τ).loc main_arg1) ((Rect.unit (s := S1024x4096) (k0_off1 c) S1024x1024.size (k0_off1_inb c)).idx (ix2 k n)) = _
  congr 1
  funext a
  refine Fin.ext ?_
  show k0_off1 c a + 1 * ((ix2 k n : S1024x1024.Idx) a).val = _
  rw [off1_eq]
  match a with
  | ⟨0, _⟩ => show 0 + 1 * k.val = k.val; omega
  | ⟨1, _⟩ => show 1024 * c.val + 1 * n.val = n'.val; omega

/-- A device's output weights at an element. -/
theorem woC_apply (c : Dev nD) (k n : Fin 1024) (k' : Fin 4096) (hk : k'.val = 1024 * c.val + k.val) :
    woC m c (ix2 k n) = m ((c : Thread nD τ).loc main_arg4) (ix2 k' n) := by
  show m ((c : Thread nD τ).loc main_arg4) ((Rect.unit (s := S4096x1024) (k0_off6 c) S1024x1024.size (k0_off6_inb c)).idx (ix2 k n)) = _
  congr 1
  funext a
  refine Fin.ext ?_
  show k0_off6 c a + 1 * ((ix2 k n : S1024x1024.Idx) a).val = _
  rw [off6_eq]
  match a with
  | ⟨0, _⟩ => show 1024 * c.val + 1 * k.val = k'.val; omega
  | ⟨1, _⟩ => show 0 + 1 * n.val = n.val; omega

/-- The context at an element: head `n / 128`, and the keys of the row block of `i`. -/
theorem context_apply (Q : S256x1024.Idx → Elt Ideal .f32) (K V : S1x4096x8x128.Idx → Elt Ideal .f32) (i : Fin 256) (n : Fin 1024)
    (b : Fin 4) (hb : b.val = i.val / 64) (h : Fin 8) (hh : h.val = n.val / 128) (e : Fin 128) (he : e.val = n.val % 128) :
    context Q K V (ix2 i n) =
      ∑ r : Fin 1024, weight (fun r' : Fin 1024 => ∑ d : Fin 128, Q (ix2 i ⟨h.val * 128 + d.val, by omega⟩) * K (ix4 0 (keyRow b r') h d)) r
        * V (ix4 0 (keyRow b r) h e) := by
  obtain rfl : b = ⟨i.val / 64, Nat.div_lt_of_lt_mul (show i.val < 64 * 4 from i.isLt)⟩ := Fin.ext hb
  obtain rfl : h = ⟨n.val / 128, Nat.div_lt_of_lt_mul (show n.val < 128 * 8 from n.isLt)⟩ := Fin.ext hh
  obtain rfl : e = ⟨n.val % 128, Nat.mod_lt _ (by decide)⟩ := Fin.ext he
  refine (pay3_apply _ _ _ (⟨i.val % 64, by omega⟩ : Fin 64) (⟨n.val % 128, by omega⟩ : Fin 128)).trans ?_
  have hq : ∀ d : Fin 128, qWin Q (⟨i.val / 64, by omega⟩ : Fin 4) (⟨n.val / 128, by omega⟩ : Fin 8) (ix2 (⟨i.val % 64, by omega⟩ : Fin 64) d)
      = Q (ix2 i ⟨n.val / 128 * 128 + d.val, by omega⟩) := by
    intro d
    unfold qWin
    congr 1
    funext a
    match a with
    | ⟨0, _⟩ => exact Fin.ext (by show 64 * (i.val / 64) + i.val % 64 = i.val; omega)
    | ⟨1, _⟩ => exact Fin.ext (by show 128 * (n.val / 128) + d.val = n.val / 128 * 128 + d.val; omega)
  refine Finset.sum_congr rfl fun r _ => ?_
  refine congrArg₂ (· * ·) (congrArg (fun t : Fin 1024 → EReal => weight t r) (funext fun r' => Finset.sum_congr rfl fun d _ => ?_)) ?_
  · exact congrArg₂ (· * ·) (hq d) (congrArg K (ix4_eq_valueIdx _ _ _ _).symm)
  · exact congrArg V (ix4_eq_valueIdx _ _ _ _).symm

/-- A device's part of the result: its context against its rows of the output weights. -/
def part (c : Dev nD) (i : Fin 256) (n : Fin 1024) : EReal := ∑ k : Fin 1024, ctxC m c (ix2 i k) * woC m c (ix2 k n)

end Cert.ValueProof

end
-- ==== Proof.Value.Combine.lean ====
/- What the rounds of the exchange add up to: every device ends with the sum of all four parts. -/
module

public import proofs.«01_k».proof.Proof.Value.Kernel

@[expose] public section

set_option maxRecDepth 16384

noncomputable section

namespace Cert.ValueProof

open Idealize.ShloMosaic Idealize.ShloMosaic.TcCoe Idealize.SL.Sem
open Cert.KernelIdeal Cert.KernelIdeal.Gen Cert.KernelIdealProof
open scoped BigOperators

variable (m : (ℓ : Loc nD τ sig) → Buf (Elt Ideal) ℓ)

/-! ## Where the windows of one device lie in those of another -/

/-- The rows that round 2 sends, within what round 1 received. -/
theorem off35_eq : ∀ d : Dev nD, k0_off35 d = ![64 * (blk d 2).val - 64 * (blk (pa d) 0).val, 0] := by decide +kernel
theorem blk_two : ∀ d : Dev nD, (blk (pa d) 0).val ≤ (blk d 2).val ∧ (blk d 2).val ≤ (blk (pa d) 0).val + 1 := by decide
/-- The rows that are completed, within what round 1 received. -/
theorem off46_eq : ∀ d : Dev nD, k0_off46 d = ![64 * (blk d 3).val - 64 * (blk (pa d) 0).val, 0] := by decide +kernel
theorem blk_three : ∀ d : Dev nD, (blk (pa d) 0).val ≤ (blk d 3).val ∧ (blk d 3).val ≤ (blk (pa d) 0).val + 1 := by decide
/-- What a partner of round 2 sends are the rows that this device completes, and the other way round. -/
theorem blk_pb_two : ∀ d : Dev nD, blk (pb d) 2 = blk d 3 := by decide
theorem blk_pb_three : ∀ d : Dev nD, blk (pb d) 3 = blk d 2 := by decide
/-- Where the halves of round 4 lie. -/
theorem half_a : ∀ d : Dev nD, 64 * (blk d 0).val + k0_off47 (pa d) 0 = 64 * (blk (pa d) 3).val ∧ k0_off47 (pa d) 1 = 0 := by decide +kernel
theorem half_b : ∀ d : Dev nD, 64 * (blk d 0).val + k0_off48 (pa d) 0 = 64 * (blk (pb (pa d)) 3).val ∧ k0_off48 (pa d) 1 = 0 := by decide +kernel

/-! ## Windows read at an element -/

/-- A window of a rank-2 array of 1024 columns, cut along the rows, at an element. -/
theorem idx_rows {R r : ℕ} (off : Fin 2 → ℕ) (o : ℕ) (hoff : off = ![o, 0]) (inb : ∀ a, off a + (⟨2, ![r, 1024]⟩ : Shape).size a ≤ (⟨2, ![R, 1024]⟩ : Shape).size a)
    (y : Fin r) (n : Fin 1024) (i : Fin R) (hi : i.val = o + y.val) :
    (Rect.unit (s := (⟨2, ![R, 1024]⟩ : Shape)) off (⟨2, ![r, 1024]⟩ : Shape).size inb).idx (ix2 y n) = ix2 i n := by
  subst hoff
  funext a
  refine Fin.ext ?_
  match a with
  | ⟨0, _⟩ => show o + 1 * y.val = i.val; omega
  | ⟨1, _⟩ => show 0 + 1 * n.val = n.val; omega

/-- The same of the result, which has a leading axis of one. -/
theorem idx_out {r : ℕ} (off : Fin 3 → ℕ) (o : ℕ) (hoff : off = ![0, o, 0]) (inb : ∀ a, off a + (⟨3, ![1, r, 1024]⟩ : Shape).size a ≤ S1x256x1024.size a)
    (y : Fin r) (n : Fin 1024) (i : Fin 256) (hi : i.val = o + y.val) :
    (Rect.unit (s := S1x256x1024) off (⟨3, ![1, r, 1024]⟩ : Shape).size inb).idx (ix3 0 y n) = ix3 0 i n := by
  subst hoff
  funext a
  refine Fin.ext ?_
  match a with
  | ⟨0, _⟩ => rfl
  | ⟨1, _⟩ => show o + 1 * y.val = i.val; omega
  | ⟨2, _⟩ => show 0 + 1 * n.val = n.val; omega

/-! ## The rounds -/

/-- Round 1 sends this device's part of its first two row blocks. -/
theorem s1C_apply (c : Dev nD) (r : Fin 128) (n : Fin 1024) (i : Fin 256) (hi : i.val = 64 * (blk c 0).val + r.val) :
    s1C m c (ix2 r n) = part m c i n := by
  refine (pay31_apply _ _ r n).trans (Finset.sum_congr rfl fun k _ => congrArg (· * _) ?_)
  exact congrArg (ctxC m c) (idx_rows _ _ (off23_eq' c) _ r k i hi)

/-- Round 2 sends two parts of the third row block. -/
theorem a2C_apply (c : Dev nD) (r : Fin 64) (n : Fin 1024) (i : Fin 256) (hi : i.val = 64 * (blk c 2).val + r.val) :
    a2C m c (ix3 0 r n) = part m c i n + part m (pa c) i n := by
  have hb := blk_two c
  refine (pay45_apply _ _ _ r n).trans (congrArg₂ (· + ·) (Finset.sum_congr rfl fun k _ => congrArg (· * _) ?_) ?_)
  · exact congrArg (ctxC m c) (idx_rows _ _ (off33_eq' c) _ r k i hi)
  · refine (congrArg (s1C m (pa c)) (idx_rows _ _ (off35_eq c) _ r n
      ⟨64 * (blk c 2).val - 64 * (blk (pa c) 0).val + r.val, by omega⟩ rfl)).trans ?_
    exact s1C_apply m (pa c) _ n i (by show i.val = 64 * (blk (pa c) 0).val + (64 * (blk c 2).val - 64 * (blk (pa c) 0).val + r.val); omega)

/-- The four parts, in the order in which a device adds them. -/
def total (c : Dev nD) (i : Fin 256) (n : Fin 1024) : EReal :=
  part m c i n + part m (pa c) i n + (part m (pb c) i n + part m (pa (pb c)) i n)

/-- In whatever order, they are the sum over the devices. -/
theorem total_eq (c : Dev nD) (i : Fin 256) (n : Fin 1024) : total m c i n = ∑ d : Dev nD, part m d i n := by
  refine Eq.trans ?_ (Fin.sum_univ_four (fun d : Fin 4 => part m d i n)).symm
  match c with
  | 0 => show part m 0 i n + part m 1 i n + (part m 3 i n + part m 2 i n) = part m 0 i n + part m 1 i n + part m 2 i n + part m 3 i n; ac_rfl
  | 1 => show part m 1 i n + part m 0 i n + (part m 2 i n + part m 3 i n) = part m 0 i n + part m 1 i n + part m 2 i n + part m 3 i n; ac_rfl
  | 2 => show part m 2 i n + part m 3 i n + (part m 1 i n + part m 0 i n) = part m 0 i n + part m 1 i n + part m 2 i n + part m 3 i n; ac_rfl
  | 3 => show part m 3 i n + part m 2 i n + (part m 0 i n + part m 1 i n) = part m 0 i n + part m 1 i n + part m 2 i n + part m 3 i n; ac_rfl

/-- A device completes its fourth row block: all four parts of it. -/
theorem a3C_apply (c : Dev nD) (r : Fin 64) (n : Fin 1024) (i : Fin 256) (hi : i.val = 64 * (blk c 3).val + r.val) :
    a3C m c (ix3 0 r n) = ∑ d : Dev nD, part m d i n := by
  rw [← total_eq m c]
  have hb := blk_three c
  refine (pay60_apply _ _ _ _ r n).trans (congrArg₂ (· + ·) (congrArg₂ (· + ·) (Finset.sum_congr rfl fun k _ => congrArg (· * _) ?_) ?_) ?_)
  · exact congrArg (ctxC m c) (idx_rows _ _ (off44_eq' c) _ r k i hi)
  · refine (congrArg (s1C m (pa c)) (idx_rows _ _ (off46_eq c) _ r n
      ⟨64 * (blk c 3).val - 64 * (blk (pa c) 0).val + r.val, by omega⟩ rfl)).trans ?_
    exact s1C_apply m (pa c) _ n i (by show i.val = 64 * (blk (pa c) 0).val + (64 * (blk c 3).val - 64 * (blk (pa c) 0).val + r.val); omega)
  · exact (pay46_apply _ r n).trans (a2C_apply m (pb c) r n i (by rw [blk_pb_two]; exact hi))

/-- What rounds 3 and 4 send is that row block. -/
theorem s3C_apply (c : Dev nD) (r : Fin 64) (n : Fin 1024) (i : Fin 256) (hi : i.val = 64 * (blk c 3).val + r.val) :
    s3C m c (ix2 r n) = ∑ d : Dev nD, part m d i n :=
  (pay61_apply _ r n).trans (a3C_apply m c r n i hi)

/-- Round 4 brings the two remaining row blocks. -/
theorem r4C_apply (c : Dev nD) (r : Fin 128) (n : Fin 1024) (i : Fin 256) (hi : i.val = 64 * (blk c 0).val + r.val) :
    r4C m c (ix2 r n) = ∑ d : Dev nD, part m d i n := by
  have hmem : (ix2 r n : S128x1024.Idx) ∈ (r4a (pa c)).view.set ∪ (r4b (pa c)).view.set := by
    rw [halves_union]; exact Finset.mem_univ _
  rcases Finset.mem_union.mp hmem with h | h
  · rw [← r4a_lands m c (s1C m c) _ h]
    obtain ⟨y, -, hy⟩ := Finset.mem_map.mp h
    have hv : k0_off47 (pa c) 0 + 1 * (y 0).val = r.val := congrArg (fun i : S128x1024.Idx => (i 0).val) hy
    have hw : k0_off47 (pa c) 1 + 1 * (y 1).val = n.val := congrArg (fun i : S128x1024.Idx => (i 1).val) hy
    have ho := half_a c
    rw [← hy, View.write_emb_of_mem _ _ (Finset.mem_univ _)]
    have hy' : y = ix2 (y 0 : Fin 64) n := by
      funext a
      match a with
      | ⟨0, _⟩ => rfl
      | ⟨1, _⟩ => exact Fin.ext (by show (y 1).val = n.val; omega)
    refine (congrArg (s3C m (pa c)) hy').trans (s3C_apply m (pa c) _ n i ?_)
    omega
  · rw [← r4b_lands m c (s1C m c) _ h]
    obtain ⟨y, -, hy⟩ := Finset.mem_map.mp h
    have hv : k0_off48 (pa c) 0 + 1 * (y 0).val = r.val := congrArg (fun i : S128x1024.Idx => (i 0).val) hy
    have hw : k0_off48 (pa c) 1 + 1 * (y 1).val = n.val := congrArg (fun i : S128x1024.Idx => (i 1).val) hy
    have ho := half_b c
    rw [← hy, View.write_emb_of_mem _ _ (Finset.mem_univ _)]
    have hy' : y = ix2 (y 0 : Fin 64) n := by
      funext a
      match a with
      | ⟨0, _⟩ => rfl
      | ⟨1, _⟩ => exact Fin.ext (by show (y 1).val = n.val; omega)
    refine (congrArg (s3C m (pb (pa c))) hy').trans (s3C_apply m (pb (pa c)) _ n i ?_)
    omega

/-! ## The result -/

/-- A stored window at an element under it, -/
theorem write_in (r : Rect S1x256x1024) (f : S1x256x1024.Idx → Elt Ideal .f32) (w : r.shape.Idx → Elt Ideal .f32) (y : r.shape.Idx)
    (i : S1x256x1024.Idx) (hy : r.idx y = i) : (oM.access r : View sig .tc _ _ _).write (Elt Ideal) f w Finset.univ i = w y := by
  subst hy
  exact View.write_emb_of_mem (v := (oM.access r : View sig .tc _ _ _)) f w (Finset.mem_univ y)
/-- and at one outside. -/
theorem write_out (r : Rect S1x256x1024) (f : S1x256x1024.Idx → Elt Ideal .f32) (w : r.shape.Idx → Elt Ideal .f32)
    (i : S1x256x1024.Idx) (hi : i ∉ r.set) : (oM.access r : View sig .tc _ _ _).write (Elt Ideal) f w Finset.univ i = f i :=
  View.write_of_not_mem (v := (oM.access r : View sig .tc _ _ _)) f w _ (fun h => hi ((mem_access_o r i).mp h))

/-- Every device's result is the sum of the four devices' parts. -/
theorem outC_apply (c : Dev nD) (i : Fin 256) (n : Fin 1024) : outC m c (ix3 0 i n) = ∑ d : Dev nD, part m d i n := by
  unfold outC
  have hb1 := blk_one c
  by_cases h24 : (ix3 0 i n : S1x256x1024.Idx) ∈ (w24 c).set
  · have h := (mem_w24 c _).mp h24
    have h : i.val / 64 = (blk c 0).val ∨ i.val / 64 = (blk c 1).val := h
    rw [write_in (w24 c) _ _ (ix3 0 (⟨i.val - 64 * (blk c 0).val, by omega⟩ : Fin 128) n) _
      (idx_out _ _ (off24_eq' c) _ _ n i (by show i.val = 64 * (blk c 0).val + (i.val - 64 * (blk c 0).val); omega))]
    exact (pay63_apply _ _ n).trans (r4C_apply m c _ n i (by show i.val = 64 * (blk c 0).val + (i.val - 64 * (blk c 0).val); omega))
  · rw [write_out _ _ _ _ h24]
    by_cases h34 : (ix3 0 i n : S1x256x1024.Idx) ∈ (w34 c).set
    · have h : i.val / 64 = (blk c 2).val := (mem_w34 c _).mp h34
      rw [write_in (w34 c) _ _ (ix3 0 (⟨i.val - 64 * (blk c 2).val, by omega⟩ : Fin 64) n) _
        (idx_out _ _ (off34_eq' c) _ _ n i (by show i.val = 64 * (blk c 2).val + (i.val - 64 * (blk c 2).val); omega))]
      refine (pay62_apply _ _ n).trans (s3C_apply m (pb c) _ n i ?_)
      rw [blk_pb_three]
      show i.val = 64 * (blk c 2).val + (i.val - 64 * (blk c 2).val)
      omega
    · rw [write_out _ _ _ _ h34]
      have h : i.val / 64 = (blk c 3).val := by
        rw [mem_w24] at h24
        rw [mem_w34] at h34
        rcases block_cases c (ix3 0 i n : S1x256x1024.Idx) with h | h | h | h
        · exact absurd (Or.inl h) h24
        · exact absurd (Or.inr h) h24
        · exact absurd h h34
        · exact h
      rw [write_in (w45 c) _ _ (ix3 0 (⟨i.val - 64 * (blk c 3).val, by omega⟩ : Fin 64) n) _
        (idx_out _ _ (off45_eq' c) _ _ n i (by show i.val = 64 * (blk c 3).val + (i.val - 64 * (blk c 3).val); omega))]
      exact a3C_apply m c _ n i (by show i.val = 64 * (blk c 3).val + (i.val - 64 * (blk c 3).val); omega)

end Cert.ValueProof

end
-- ==== Proof.Value.Mask.lean ====
/- The reference's mask, computed on words, read at an element. -/
module

public import proofs.«01_k».proof.Proof.Gen.ReferenceIdeal
public import Idealize.ShloMosaic.Lib.Pointwise
public import Idealize.ShloMosaic.Lib.Routing.Words

@[expose] public section

set_option maxRecDepth 16384

noncomputable section

namespace Cert.ValueProof

open Idealize.ShloMosaic Idealize.ShloMosaic.Routing
open Cert.ReferenceIdeal Cert.ReferenceIdeal.Gen

/-- The floored quotient of a vector of words by a word, as the reference computes it. -/
def quotV {s : Shape} (h : S_.BroadcastsInDim s (![] : Fin 0 → Fin s.rank)) (x : IVec s 32) (d : BitVec 32) : IVec s 32 :=
  select (andi (cmpi .ne (signi x) (broadcastInDim s ![] h (signi (id (constantI S_ 32 d)))))
      (cmpi .ne (Host.remsi x (broadcastInDim s ![] h (id (constantI S_ 32 d)))) (broadcastInDim s ![] h (constantI S_ 32 0#32))))
    (subi (Host.divsi x (broadcastInDim s ![] h (id (constantI S_ 32 d)))) (broadcastInDim s ![] h (constantI S_ 32 1#32)))
    (Host.divsi x (broadcastInDim s ![] h (id (constantI S_ 32 d))))

/-- The divisor of the reference's remainder. -/
def divisorV (d : BitVec 32) : IVec S_ 32 :=
  select (cmpi .eq (id (constantI S_ 32 d)) (constantI S_ 32 0#32)) (constantI S_ 32 1#32) (id (constantI S_ 32 d))

/-- The remainder with the divisor's sign of a vector of words by a word, as the reference computes it. -/
def remV {s : Shape} (h : S_.BroadcastsInDim s (![] : Fin 0 → Fin s.rank)) (x : IVec s 32) (d : BitVec 32) : IVec s 32 :=
  select (andi (cmpi .ne (cmpi .slt (Host.remsi x (broadcastInDim s ![] h (divisorV d))) (broadcastInDim s ![] h (constantI S_ 32 0#32)))
        (broadcastInDim s ![] h (cmpi .slt (divisorV d) (constantI S_ 32 0#32))))
      (cmpi .ne (Host.remsi x (broadcastInDim s ![] h (divisorV d))) (broadcastInDim s ![] h (constantI S_ 32 0#32))))
    (addi (Host.remsi x (broadcastInDim s ![] h (divisorV d))) (broadcastInDim s ![] h (divisorV d)))
    (Host.remsi x (broadcastInDim s ![] h (divisorV d)))

/-- The row blocks of the queries, in a column. -/
def rowBlocks : IVec S256x1 32 := broadcastInDim S256x1 ![0] bcast_S256_S256x1_0 (quotV bcast_S_S256 (iotaInDim S256 32 0) 64#32)
/-- The row blocks of the keys, in a row. -/
def keyBlocks : IVec S1x4096 32 := broadcastInDim S1x4096 ![1] bcast_S4096_S1x4096_1 (quotV bcast_S_S4096 (iotaInDim S4096 32 0) 64#32)

/-- The mask: which keys a query sees. -/
def maskV : IVec S256x4096 1 :=
  ori (cmpi .eq (broadcastInDim S256x4096 ![0, 1] bcast_S256x1_S256x4096_0_1 rowBlocks)
      (broadcastInDim S256x4096 ![0, 1] bcast_S1x4096_S256x4096_0_1 keyBlocks))
    (cmpi .eq (broadcastInDim S256x4096 ![0, 1] bcast_S1x4096_S256x4096_0_1 (remV bcast_S_S1x4096 keyBlocks 4#32))
      (broadcastInDim S256x4096 ![0, 1] bcast_S256x1_S256x4096_0_1 (remV bcast_S_S256x1 rowBlocks 4#32)))

/-- A quotient of words that are not negative is the natural one. -/
theorem quotV_apply {s : Shape} (h : S_.BroadcastsInDim s (![] : Fin 0 → Fin s.rank)) (x : IVec s 32) (i : s.Idx) {a b : ℕ}
    (hx : x i = BitVec.ofNat 32 a) (ha : a < 2 ^ 31) (h0 : 0 < b) (hb : b < 2 ^ 31) :
    quotV h x (BitVec.ofNat 32 b) i = BitVec.ofNat 32 (a / b) := by
  show Scalar.select (IntOp.andi (IntOp.cmpi .ne (if x i = 0 then 0 else if (x i).msb then -1 else 1)
      (if BitVec.ofNat 32 b = 0 then 0 else if (BitVec.ofNat 32 b).msb then -1 else 1))
      (IntOp.cmpi .ne (IntOp.remsi .host (x i) (BitVec.ofNat 32 b)) 0#32))
    (IntOp.subi (IntOp.divsi .host (x i) (BitVec.ofNat 32 b)) 1#32) (IntOp.divsi .host (x i) (BitVec.ofNat 32 b)) = _
  rw [hx, remsi_word .host ha h0 hb, divsi_word .host ha h0 hb, msb_ofNat32 ha, msb_ofNat32 hb, if_neg (ofNat32_ne_zero h0 (by omega))]
  rcases Nat.eq_zero_or_pos a with rfl | hp
  · rw [Nat.zero_mod, Nat.zero_div]; rfl
  · rw [if_neg (ofNat32_ne_zero hp (by omega)), if_neg Bool.false_ne_true,
      show IntOp.cmpi .ne (1 : BitVec 32) 1 = 0#1 by decide]
    show Scalar.select (0#1 &&& _) _ _ = _
    rw [BitVec.zero_and]
    rfl

/-- A word below half the range is not less than zero. -/
theorem slt_zero {a : ℕ} (ha : a < 2 ^ 31) : IntOp.cmpi .slt (BitVec.ofNat 32 a) 0#32 = 0#1 := by
  have : (BitVec.ofNat 32 a).slt 0#32 = false := by
    rw [BitVec.slt_zero_eq_msb, msb_ofNat32 ha]
  show BitVec.ofBool ((BitVec.ofNat 32 a).slt 0#32) = _
  rw [this]; rfl

/-- A remainder of words that are not negative is the natural one. -/
theorem remV_apply {s : Shape} (h : S_.BroadcastsInDim s (![] : Fin 0 → Fin s.rank)) (x : IVec s 32) (i : s.Idx) {a b : ℕ}
    (hx : x i = BitVec.ofNat 32 a) (ha : a < 2 ^ 31) (h0 : 0 < b) (hb : b < 2 ^ 31) :
    remV h x (BitVec.ofNat 32 b) i = BitVec.ofNat 32 (a % b) := by
  have hd : Scalar.select (IntOp.cmpi .eq (BitVec.ofNat 32 b) 0#32) 1#32 (BitVec.ofNat 32 b) = BitVec.ofNat 32 b := by
    have : IntOp.cmpi .eq (BitVec.ofNat 32 b) 0#32 = 0#1 := by
      show BitVec.ofBool (BitVec.ofNat 32 b == 0#32) = _
      have h1 : (BitVec.ofNat 32 b == 0#32) = false := beq_false_of_ne (ofNat32_ne_zero h0 (by omega))
      rw [h1]; rfl
    rw [this]; rfl
  show Scalar.select (IntOp.andi (IntOp.cmpi .ne
        (IntOp.cmpi .slt (IntOp.remsi .host (x i) (Scalar.select (IntOp.cmpi .eq (BitVec.ofNat 32 b) 0#32) 1#32 (BitVec.ofNat 32 b))) 0#32)
        (IntOp.cmpi .slt (Scalar.select (IntOp.cmpi .eq (BitVec.ofNat 32 b) 0#32) 1#32 (BitVec.ofNat 32 b)) 0#32))
      (IntOp.cmpi .ne (IntOp.remsi .host (x i) (Scalar.select (IntOp.cmpi .eq (BitVec.ofNat 32 b) 0#32) 1#32 (BitVec.ofNat 32 b))) 0#32))
    (IntOp.addi (IntOp.remsi .host (x i) (Scalar.select (IntOp.cmpi .eq (BitVec.ofNat 32 b) 0#32) 1#32 (BitVec.ofNat 32 b)))
      (Scalar.select (IntOp.cmpi .eq (BitVec.ofNat 32 b) 0#32) 1#32 (BitVec.ofNat 32 b)))
    (IntOp.remsi .host (x i) (Scalar.select (IntOp.cmpi .eq (BitVec.ofNat 32 b) 0#32) 1#32 (BitVec.ofNat 32 b))) = _
  rw [hd, hx, remsi_word .host ha h0 hb, slt_zero hb, slt_zero (lt_of_le_of_lt (Nat.mod_le a b) ha),
    show IntOp.cmpi .ne (0#1) (0#1) = 0#1 by decide]
  show Scalar.select (0#1 &&& _) _ _ = _
  rw [BitVec.zero_and]
  rfl

/-- Query row `i` sees key row `j` exactly if the block of `j` is that of `i` modulo four. -/
theorem maskV_apply (i : Fin 256) (j : Fin 4096) :
    maskV (ix2 i j) = BitVec.ofBool (decide (j.val / 64 % 4 = i.val / 64)) := by
  have hr : ∀ z : Fin 1, rowBlocks (ix2 i z) = BitVec.ofNat 32 (i.val / 64) := by
    intro z
    pointwise [rowBlocks]
    exact quotV_apply _ _ _ (a := i.val) (b := 64) rfl (by omega) (by decide) (by decide)
  have hk : ∀ z : Fin 1, keyBlocks (ix2 z j) = BitVec.ofNat 32 (j.val / 64) := by
    intro z
    pointwise [keyBlocks]
    exact quotV_apply _ _ _ (a := j.val) (b := 64) rfl (by omega) (by decide) (by decide)
  pointwise [maskV]
  rw [hr, hk, remV_apply (b := 4) _ _ _ (hk _) (by omega) (by decide) (by decide),
    remV_apply (b := 4) _ _ _ (hr _) (by omega) (by decide) (by decide)]
  have heq : ∀ a b : ℕ, a < 64 → b < 64 → IntOp.cmpi .eq (BitVec.ofNat 32 a) (BitVec.ofNat 32 b) = BitVec.ofBool (decide (a = b)) := by
    intro a b ha hb
    show BitVec.ofBool (BitVec.ofNat 32 a == BitVec.ofNat 32 b) = _
    congr 1
    rw [Bool.eq_iff_iff, beq_iff_eq, decide_eq_true_iff]
    constructor
    · intro h
      have := congrArg BitVec.toNat h
      rw [BitVec.toNat_ofNat, BitVec.toNat_ofNat, Nat.mod_eq_of_lt (by omega), Nat.mod_eq_of_lt (by omega)] at this
      exact this
    · rintro rfl; rfl
  rw [heq _ _ (by omega) (by omega), heq _ _ (by omega) (by omega)]
  by_cases h : j.val / 64 % 4 = i.val / 64
  · rw [decide_eq_true (show j.val / 64 % 4 = i.val / 64 % 4 by omega), decide_eq_true h]
    cases decide (i.val / 64 = j.val / 64) <;> rfl
  · rw [decide_eq_false (show ¬ i.val / 64 = j.val / 64 by omega), decide_eq_false (show ¬ j.val / 64 % 4 = i.val / 64 % 4 by omega),
      decide_eq_false h]
    rfl

end Cert.ValueProof

end
-- ==== Proof.Value.Reference.lean ====
/- The reference's result, named step by step. -/
module

public import proofs.«01_k».proof.Proof.Value.Mask
public import proofs.«01_k».proof.Proof.Gen.ReferenceIdeal.Run

@[expose] public section

set_option maxRecDepth 16384

noncomputable section

namespace Cert.ValueProof

open Idealize.ShloMosaic Idealize.ShloMosaic.TcCoe Idealize.SL.Sem
open Cert.ReferenceIdeal Cert.ReferenceIdeal.Gen

/-- The queries. -/
def refQ (x : FVec Ideal S1x256x1024 .f32) (wq : FVec Ideal S1024x4096 .f32) : FVec Ideal S1x256x4096 .f32 :=
  Host.dotGeneral dot_S1x256x1024_S1024x4096_S1x256x4096_2_0_01_1_n_n none x wq

/-- The scores, −∞ where the mask hides the key. -/
def refScores (q : FVec Ideal S1x256x4096 .f32) (k : FVec Ideal S1x4096x32x128 .f32) : FVec Ideal S1x32x256x4096 .f32 :=
  select (broadcastInDim S1x32x256x4096 ![0, 1, 2, 3] bcast_S1x1x256x4096_S1x32x256x4096_0_1_2_3
      (broadcastInDim S1x1x256x4096 ![2, 3] bcast_S256x4096_S1x1x256x4096_2_3 maskV))
    (mulf (Host.dotGeneral dot_S1x256x32x128_S1x4096x32x128_S1x32x256x4096_3_3_1_1_02_02 none
        (shapeCast _ q shapeCasts_S1x256x4096_S1x256x32x128) k)
      (broadcastInDim S1x32x256x4096 ![] bcast_S_S1x32x256x4096 (constant S_ .f32 0x3DB504F3#32)))
    (broadcastInDim S1x32x256x4096 ![] bcast_S_S1x32x256x4096 (id (constant S_ .f32 0xFF800000#32)))

/-- The exponentials of the scores above their maximum. -/
def refExp (sc : FVec Ideal S1x32x256x4096 .f32) : FVec Ideal S1x32x256x4096 .f32 :=
  Host.exp (subf sc (broadcastInDim S1x32x256x4096 ![0, 1, 2, 3] bcast_S1x32x256x1_S1x32x256x4096_0_1_2_3
    (broadcastInDim S1x32x256x1 ![0, 1, 2] bcast_S1x32x256_S1x32x256x1_0_1_2
      (Host.reduce FloatOps.maximumf sc (constant S_ .f32 0xFF800000#32) reducesTo_S1x32x256x4096_S1x32x256_d3 h_S_))))

/-- Whether a query sees any key at all. -/
def anyV : IVec S256 1 := Host.reduce IntOp.ori maskV (constantI S_ 1 0#1) reducesTo_S256x4096_S256_d1 h_S_

/-- The sums of the exponentials, one for a query that sees no key. -/
def refSum (e : FVec Ideal S1x32x256x4096 .f32) : FVec Ideal S1x32x256x1 .f32 :=
  select (broadcastInDim S1x32x256x1 ![0, 1, 2, 3] bcast_S1x1x256x1_S1x32x256x1_0_1_2_3
      (broadcastInDim S1x1x256x1 ![2] bcast_S256_S1x1x256x1_2 anyV))
    (broadcastInDim S1x32x256x1 ![0, 1, 2] bcast_S1x32x256_S1x32x256x1_0_1_2
      (Host.reduceAdd e (constant S_ .f32 0x00000000#32) reducesTo_S1x32x256x4096_S1x32x256_d3 h_S_))
    (broadcastInDim S1x32x256x1 ![] bcast_S_S1x32x256x1 (id (constant S_ .f32 0x3F800000#32)))

/-- The weights, zero for a query that sees no key. -/
def refWeights (e : FVec Ideal S1x32x256x4096 .f32) : FVec Ideal S1x32x256x4096 .f32 :=
  select (broadcastInDim S1x32x256x4096 ![0, 1, 2, 3] bcast_S1x1x256x1_S1x32x256x4096_0_1_2_3
      (broadcastInDim S1x1x256x1 ![2] bcast_S256_S1x1x256x1_2 anyV))
    (Host.divf e (broadcastInDim S1x32x256x4096 ![0, 1, 2, 3] bcast_S1x32x256x1_S1x32x256x4096_0_1_2_3 (refSum e)))
    (broadcastInDim S1x32x256x4096 ![] bcast_S_S1x32x256x4096 (id (constant S_ .f32 0x00000000#32)))

/-- The weighted values, the heads side by side. -/
def refContext (w : FVec Ideal S1x32x256x4096 .f32) (v : FVec Ideal S1x4096x32x128 .f32) : FVec Ideal S1x256x4096 .f32 :=
  shapeCast _ (transpose S1x256x32x128 [0, 3, 1, 2]
    (Host.dotGeneral dot_S1x4096x32x128_S1x32x256x4096_S1x32x128x256_1_3_3_2_02_01 none v w)
    transposes_S1x32x128x256_S1x256x32x128_0_3_1_2) shapeCasts_S1x256x32x128_S1x256x4096

/-- The result. -/
def refOut (x : FVec Ideal S1x256x1024 .f32) (wq : FVec Ideal S1024x4096 .f32) (k v : FVec Ideal S1x4096x32x128 .f32)
    (wo : FVec Ideal S4096x1024 .f32) : FVec Ideal S1x256x1024 .f32 :=
  Host.dotGeneral dot_S1x256x4096_S4096x1024_S1x256x1024_2_0_01_1_n_n none
    (refContext (refWeights (refExp (refScores (refQ x wq) k))) v) wo

/-- The reference's run ends with that result. -/
theorem res_eq (m : (ℓ : Loc nD τ sig) → Buf (Elt Ideal) ℓ) (c : Dev nD) :
    Cert.ReferenceIdeal.Value.res_main_v39 m c =
      refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  rfl

end Cert.ValueProof

end
-- ==== Proof.Value.ReferenceAt.lean ====
/- The reference's result at an element. -/
module

public import proofs.«01_k».proof.Proof.Value.Reference
public import proofs.«01_k».proof.Proof.Value.Softmax
public import Idealize.ShloMosaic.Lib.Routing.OpsOrder

@[expose] public section

set_option maxRecDepth 16384

noncomputable section

namespace Cert.ValueProof

open Idealize.ShloMosaic
open Cert.ReferenceIdeal Cert.ReferenceIdeal.Gen
open scoped BigOperators

/-- The query of row `i` at column `n`, not scaled. -/
def queryAt (x : FVec Ideal S1x256x1024 .f32) (wq : FVec Ideal S1024x4096 .f32) (i : Fin 256) (n : Fin 4096) : EReal :=
  ∑ k : Fin 1024, x (ix3 0 i k) * wq (ix2 k n)

/-- The score of query `i` with key `j` in head `h`. -/
def scoreAt (x : FVec Ideal S1x256x1024 .f32) (wq : FVec Ideal S1024x4096 .f32) (k : FVec Ideal S1x4096x32x128 .f32)
    (h : Fin 32) (i : Fin 256) (j : Fin 4096) : EReal :=
  (∑ d : Fin 128, queryAt x wq i ⟨h.val * 128 + d.val, by omega⟩ * k (ix4 0 j h d)) * Ideal.ofBits .f32 1035273459#32

/-- The same, −∞ where the mask hides the key. -/
def maskedAt (x : FVec Ideal S1x256x1024 .f32) (wq : FVec Ideal S1024x4096 .f32) (k : FVec Ideal S1x4096x32x128 .f32)
    (h : Fin 32) (i : Fin 256) (j : Fin 4096) : EReal :=
  if j.val / 64 % 4 = i.val / 64 then scoreAt x wq k h i j else ⊥

/-- Every query sees a key. -/
theorem anyV_apply (i : Fin 256) : anyV (ix1 i) = 1#1 := by
  pointwise [anyV]
  rw [Routing.fold_ori]
  refine ⟨⟨i.val / 64 * 64, by omega⟩, Finset.mem_univ _, ?_⟩
  rw [maskV_apply, decide_eq_true (by show i.val / 64 * 64 / 64 % 4 = i.val / 64; omega)]
  rfl

/-- The masked scores at an element. -/
theorem refScores_apply (x : FVec Ideal S1x256x1024 .f32) (wq : FVec Ideal S1024x4096 .f32) (k : FVec Ideal S1x4096x32x128 .f32)
    (h : Fin 32) (i : Fin 256) (j : Fin 4096) : refScores (refQ x wq) k (ix4 0 h i j) = maskedAt x wq k h i j := by
  pointwise [refScores, refQ]
  rw [maskV_apply]
  unfold maskedAt
  split
  · next hm => rw [decide_eq_true hm]; rfl
  · next hm => rw [decide_eq_false hm]; exact ofBits_negInf

/-- The exponentials at an element. -/
theorem refExp_apply (sc : FVec Ideal S1x32x256x4096 .f32) (h : Fin 32) (i : Fin 256) (j : Fin 4096) :
    refExp sc (ix4 0 h i j) = Ideal.exp (sc (ix4 0 h i j) - Finset.univ.fold max ⊥ (fun j' => sc (ix4 0 h i j'))) := by
  pointwise [refExp]
  rw [ofBits_negInf]

/-- The weights at an element. -/
theorem refWeights_apply (sc : FVec Ideal S1x32x256x4096 .f32) (h : Fin 32) (i : Fin 256) (j : Fin 4096) :
    refWeights (refExp sc) (ix4 0 h i j) = weight (fun j' => sc (ix4 0 h i j')) j := by
  pointwise [refWeights, refSum]
  rw [anyV_apply, refExp_apply]
  unfold weight
  have hs : ∀ a b : EReal, Scalar.select (1#1) a b = a := fun _ _ => rfl
  rw [hs, hs]
  refine congrArg (Ideal.div _) (Finset.sum_congr rfl fun j' _ => refExp_apply sc h i j')

/-- The context of query `i` at column `n`. -/
def contextAt (x : FVec Ideal S1x256x1024 .f32) (wq : FVec Ideal S1024x4096 .f32) (k v : FVec Ideal S1x4096x32x128 .f32)
    (i : Fin 256) (n : Fin 4096) : EReal :=
  ∑ j : Fin 4096, v (ix4 0 j ⟨n.val / 128, by omega⟩ ⟨n.val % 128, by omega⟩) * weight (maskedAt x wq k ⟨n.val / 128, by omega⟩ i) j

/-- The reference's result at an element. -/
theorem refOut_apply (x : FVec Ideal S1x256x1024 .f32) (wq : FVec Ideal S1024x4096 .f32) (k v : FVec Ideal S1x4096x32x128 .f32)
    (wo : FVec Ideal S4096x1024 .f32) (i : Fin 256) (n : Fin 1024) :
    refOut x wq k v wo (ix3 0 i n) = ∑ c : Fin 4096, contextAt x wq k v i c * wo (ix2 c n) := by
  pointwise [refOut, refContext]
  refine Finset.sum_congr rfl fun c _ => congrArg (· * _) (Finset.sum_congr rfl fun j _ => congrArg (_ * ·) ?_)
  rw [refWeights_apply]
  exact congrArg (fun t : Fin 4096 → EReal => weight t j) (funext fun j' => refScores_apply x wq k _ i j')

end Cert.ValueProof

end
-- ==== Proof.Value.Equation.lean ====
/- The kernel's result is the reference's, where the activations, the query weights and the keys are real. -/
module

public import proofs.«01_k».proof.Proof.Value.Combine
public import proofs.«01_k».proof.Proof.Value.ReferenceAt

@[expose] public section

set_option maxRecDepth 16384

noncomputable section

namespace Cert.ValueProof

open Idealize.ShloMosaic Idealize.ShloMosaic.TcCoe Idealize.SL.Sem
open Cert.KernelIdeal Cert.KernelIdealProof
open scoped BigOperators

/-- The reference's arguments: the activations, the query weights, the keys, the values, the output weights. -/
structure Args where
  /-- the activations -/
  x : FVec Ideal S1x256x1024 .f32
  /-- the query weights -/
  wq : FVec Ideal S1024x4096 .f32
  /-- the keys -/
  k : FVec Ideal Cert.ReferenceIdeal.S1x4096x32x128 .f32
  /-- the values -/
  v : FVec Ideal Cert.ReferenceIdeal.S1x4096x32x128 .f32
  /-- the output weights -/
  wo : FVec Ideal S4096x1024 .f32

/-- The kernel's launch memory holds the reference's arguments: the keys and values cut by heads, eight to a device,
    the others whole on every device. -/
structure Holds (m : (ℓ : Loc nD τ sig) → Buf (Elt Ideal) ℓ) (a : Args) : Prop where
  x : ∀ c : Dev nD, ∀ i k, m ((c : Thread nD τ).loc main_arg0) (ix3 0 i k) = a.x (ix3 0 i k)
  wq : ∀ c : Dev nD, ∀ k n, m ((c : Thread nD τ).loc main_arg1) (ix2 k n) = a.wq (ix2 k n)
  k : ∀ (c : Dev nD) (j : Fin 4096) (h : Fin 8) (d : Fin 128) (h' : Fin 32), h'.val = 8 * c.val + h.val →
    m ((c : Thread nD τ).loc main_arg2) (ix4 0 j h d) = a.k (ix4 0 j h' d)
  v : ∀ (c : Dev nD) (j : Fin 4096) (h : Fin 8) (d : Fin 128) (h' : Fin 32), h'.val = 8 * c.val + h.val →
    m ((c : Thread nD τ).loc main_arg3) (ix4 0 j h d) = a.v (ix4 0 j h' d)
  wo : ∀ c : Dev nD, ∀ k n, m ((c : Thread nD τ).loc main_arg4) (ix2 k n) = a.wo (ix2 k n)

/-- The activations, the query weights and the keys are real. -/
structure Args.Real (a : Args) : Prop where
  x : ∀ i k, IsReal (a.x (ix3 0 i k))
  wq : ∀ k n, IsReal (a.wq (ix2 k n))
  k : ∀ j h d, IsReal (a.k (ix4 0 j h d))

variable {m : (ℓ : Loc nD τ sig) → Buf (Elt Ideal) ℓ} {a : Args}

/-- The keys that the rows of a block see are different ones, -/
theorem keyRow_injective (b : Fin 4) : Function.Injective (keyRow b) := by
  intro r r' h
  have hv : 64 * b.val + 256 * (r.val / 64) + r.val % 64 = 64 * b.val + 256 * (r'.val / 64) + r'.val % 64 := congrArg Fin.val h
  exact Fin.ext (by omega)
/-- in the blocks that are that block modulo four, -/
theorem keyRow_mod (b : Fin 4) (r : Fin 1024) : (keyRow b r).val / 64 % 4 = b.val := by
  show (64 * b.val + 256 * (r.val / 64) + r.val % 64) / 64 % 4 = b.val
  omega
/-- and all of those. -/
theorem keyRow_surj (b : Fin 4) (j : Fin 4096) (h : j.val / 64 % 4 = b.val) : ∃ r, keyRow b r = j :=
  ⟨⟨64 * (j.val / 256) + j.val % 64, by omega⟩, Fin.ext (by
    show 64 * b.val + 256 * ((64 * (j.val / 256) + j.val % 64) / 64) + (64 * (j.val / 256) + j.val % 64) % 64 = j.val
    omega)⟩

/-- The queries are real. -/
theorem queryAt_real (hr : a.Real) (i : Fin 256) (n : Fin 4096) : IsReal (queryAt a.x a.wq i n) :=
  IsReal.sum _ fun k => (hr.x i k).mul (hr.wq k n)
/-- The scores are real. -/
theorem scoreAt_real (hr : a.Real) (h : Fin 32) (i : Fin 256) (j : Fin 4096) : IsReal (scoreAt a.x a.wq a.k h i j) :=
  (IsReal.sum _ fun d => (queryAt_real hr i _).mul (hr.k j h d)).mul isReal_scale

/-- A device's scaled queries at an element. -/
theorem qC_apply (hm : Holds m a) (c : Dev nD) (i : Fin 256) (n : Fin 1024) (n' : Fin 4096) (hn : n'.val = 1024 * c.val + n.val) :
    qC m c (ix2 i n) = queryAt a.x a.wq i n' * Ideal.ofBits .f32 1035273459#32 := by
  refine (pay2_apply _ _ i n).trans (congrArg (· * _) (Finset.sum_congr rfl fun k _ => congrArg₂ (· * ·) ?_ ?_))
  · exact (xC_apply m c i k).trans (hm.x c i k)
  · exact (wqC_apply m c k n n' hn).trans (hm.wq c k n')

/-- A device's context is its columns of the reference's context. -/
theorem ctxC_apply (hm : Holds m a) (hr : a.Real) (c : Dev nD) (i : Fin 256) (n : Fin 1024) (n' : Fin 4096)
    (hn : n'.val = 1024 * c.val + n.val) : ctxC m c (ix2 i n) = contextAt a.x a.wq a.k a.v i n' := by
  have hc : c.val < 4 := c.isLt
  have hb : ((⟨i.val / 64, by omega⟩ : Fin 4)).val = i.val / 64 := rfl
  generalize (⟨i.val / 64, by omega⟩ : Fin 4) = b at hb
  have hh : ((⟨n.val / 128, by omega⟩ : Fin 8)).val = n.val / 128 := rfl
  generalize (⟨n.val / 128, by omega⟩ : Fin 8) = h at hh
  have he : ((⟨n.val % 128, by omega⟩ : Fin 128)).val = n.val % 128 := rfl
  generalize (⟨n.val % 128, by omega⟩ : Fin 128) = e at he
  have hh' : ((⟨8 * c.val + h.val, by omega⟩ : Fin 32)).val = 8 * c.val + h.val := rfl
  generalize (⟨8 * c.val + h.val, by omega⟩ : Fin 32) = h' at hh'
  have h1 : (⟨n'.val / 128, by omega⟩ : Fin 32) = h' := Fin.ext (by show n'.val / 128 = h'.val; omega)
  have h2 : (⟨n'.val % 128, by omega⟩ : Fin 128) = e := Fin.ext (by show n'.val % 128 = e.val; omega)
  have hon : ∀ r, maskedAt a.x a.wq a.k h' i (keyRow b r) = scoreAt a.x a.wq a.k h' i (keyRow b r) :=
    fun r => if_pos ((keyRow_mod b r).trans hb)
  have hoff : ∀ j, (∀ r, keyRow b r ≠ j) → maskedAt a.x a.wq a.k h' i j = ⊥ := by
    intro j hj
    refine if_neg fun hk => ?_
    obtain ⟨r, hr⟩ := keyRow_surj b j (hk.trans hb.symm)
    exact hj r hr
  unfold contextAt
  rw [h1, h2, softmax_masked (keyRow_injective b) hoff (fun r => by rw [hon]; exact scoreAt_real hr h' i _)]
  unfold ctxC
  rw [context_apply _ _ _ i n b hb h hh e he]
  refine Finset.sum_congr rfl fun r _ => congrArg₂ (· * ·) (congrArg (fun t : Fin 1024 → EReal => weight t r) (funext fun r' => ?_)) ?_
  · rw [hon r']
    unfold scoreAt
    rw [← sum_scale (fun d => queryAt_real hr i _) (fun d => hr.k (keyRow b r') h' d) isReal_scale]
    refine Finset.sum_congr rfl fun d _ => congrArg₂ (· * ·) ?_ (hm.k c (keyRow b r') h d h' hh')
    exact qC_apply hm c i _ _ (by show h'.val * 128 + d.val = 1024 * c.val + (h.val * 128 + d.val); omega)
  · exact hm.v c (keyRow b r) h e h' hh'

/-- A sum over the columns of all heads is the sum over the devices of the sums over their columns. -/
theorem sum_devices (f : Fin 4096 → EReal) : ∑ n, f n = ∑ d : Fin 4, ∑ k : Fin 1024, f ⟨1024 * d.val + k.val, by omega⟩ := by
  rw [← Fintype.sum_prod_type' (f := fun (d : Fin 4) (k : Fin 1024) => f ⟨1024 * d.val + k.val, by omega⟩)]
  refine (Fintype.sum_equiv (finProdFinEquiv (m := 4) (n := 1024)) _ f fun p => ?_).symm
  exact congrArg f (Fin.ext (by show 1024 * p.1.val + p.2.val = p.2.val + 1024 * p.1.val; omega))

/-- Every device ends with the reference's result. -/
theorem out_eq_ref (hm : Holds m a) (hr : a.Real) (c : Dev nD) : outC m c = refOut a.x a.wq a.k a.v a.wo := by
  funext y
  have hy : y = ix3 (0 : Fin 1) (y 1 : Fin 256) (y 2 : Fin 1024) := by
    funext b
    match b with
    | ⟨0, _⟩ => exact Fin.ext (by have h0 : (y 0).val < 1 := (y 0).isLt; show (y 0).val = 0; omega)
    | ⟨1, _⟩ => rfl
    | ⟨2, _⟩ => rfl
  rw [hy]
  refine (outC_apply m c _ _).trans (Eq.trans ?_ (refOut_apply _ _ _ _ _ _ _).symm)
  rw [sum_devices]
  refine Finset.sum_congr rfl fun d _ => Finset.sum_congr rfl fun k _ => congrArg₂ (· * ·) ?_ ?_
  · exact ctxC_apply hm hr d _ k _ rfl
  · exact (woC_apply m d k _ _ rfl).trans (hm.wo d _ _)

end Cert.ValueProof

end
-- ==== Proof.Value.Finite.lean ====
/- What the precondition says: the elements of the first three arguments are real numbers. -/
module

public import proofs.«01_k».proof.Pre_finite_KernelIdeal
public import proofs.«01_k».proof.Proof.Value.Softmax
public import Idealize.ShloMosaic.Lib.ReduceAll

@[expose] public section

set_option maxRecDepth 16384

noncomputable section

namespace Cert.ValueProof

open Idealize.ShloMosaic
open Cert.Pre_finite_KernelIdeal

/-- The pattern that the absolute values are compared with is +∞. -/
theorem ofBits_posInf : Ideal.ofBits .f32 0x7F800000#32 = ⊤ := by
  simp [Ideal.ofBits, Ideal.ieee]

/-- An extended real whose absolute value is below +∞ is real. -/
theorem isReal_of_abs_lt {x : EReal} (h : Ideal.cmp .olt (max x (-x)) (Ideal.ofBits .f32 0x7F800000#32) = 1#1) : IsReal x := by
  rw [ofBits_posInf] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x using EReal.rec with
  | bot => exact absurd hlt (by simp)
  | top => exact absurd hlt (by simp)
  | coe y => exact ⟨y, rfl⟩

/-- A conjunction of two words of one bit that is 1 has two ones. -/
theorem andi_one {a b : BitVec 1} (h : IntOp.andi a b = 1#1) : a = 1#1 ∧ b = 1#1 := by
  revert a b; decide

instance : Subsingleton S_.Idx := ⟨fun _ _ => funext fun b => b.elim0⟩

/-- Where the precondition holds, the first three arguments are real at every element. -/
theorem real_of_pre [Cert.Pre_finite_KernelIdeal.Facts] (x : FVec Ideal S1x256x1024 .f32) (wq : FVec Ideal S1024x4096 .f32) (k v : FVec Ideal S1x4096x8x128 .f32)
    (wo : FVec Ideal S4096x1024 .f32) (h : fn x wq k v wo = fun _ => 1#1) :
    (∀ i, IsReal (x i)) ∧ (∀ i, IsReal (wq i)) ∧ (∀ i, IsReal (k i)) := by
  have h0 := congrFun h (fun b => b.elim0)
  obtain ⟨h12, h3⟩ := andi_one h0
  obtain ⟨h1, h2⟩ := andi_one h12
  exact ⟨fun i => isReal_of_abs_lt (Host.reduce_andi_all _ _ _ _ _ h1 i), fun i => isReal_of_abs_lt (Host.reduce_andi_all _ _ _ _ _ h2 i),
    fun i => isReal_of_abs_lt (Host.reduce_andi_all _ _ _ _ _ h3 i)⟩

end Cert.ValueProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Gen.Pre_finite_KernelIdeal
public import proofs.«01_k».proof.Proof.Gen.Pre_finite_ReferenceIdeal
public import proofs.«01_k».proof.Proof.Value.Equation
public import proofs.«01_k».proof.Proof.Value.Finite
public import Idealize.ShloMosaic.Lib.Quiescent
public import Idealize.ShloMosaic.Adequacy
public import Idealize.ShloMosaic.Init

@[expose] public section

noncomputable section

namespace Cert.Proof

open Idealize.ShloMosaic Idealize.SL.Sem

/-- The kernel at the machine's floats ends with its arguments unchanged and every semaphore at zero. -/
theorem kernel_quiescent : Cert.quiescent_Kernel :=
  fun m g _ => (θ_run _ _ _).mono (fun _ h => ⟨fun c => (h.1 c).2, h.2⟩) (Cert.KernelProof.run_main m g)

/-- The kernel over the extended reals ends with its arguments unchanged and every semaphore at zero. -/
theorem kernelIdeal_quiescent : Cert.quiescent_KernelIdeal :=
  fun m g _ => (θ_run _ _ _).mono (fun _ h => ⟨fun c => (h.1 c).2, h.2⟩) (Cert.KernelIdealProof.run_main m g)

/-- The reference over the extended reals ends with its arguments unchanged and every semaphore at zero. -/
theorem referenceIdeal_quiescent : Cert.quiescent_ReferenceIdeal :=
  fun m g _ => (θ_run _ _ _).mono (fun r h => ⟨fun c => (h c).2, sem_eq_zero_of_no_sems (by decide) r.2⟩)
    (Cert.ReferenceIdeal.Value.run m g)

/-- The reference's arguments in its launch memory. -/
def argsOf (m' : (ℓ : Loc Cert.ReferenceIdeal.nD Cert.ReferenceIdeal.τ Cert.ReferenceIdeal.sig) → Buf (Elt Ideal) ℓ) : Cert.ValueProof.Args where
  x := m' (((0 : Dev Cert.ReferenceIdeal.nD).tc : Thread Cert.ReferenceIdeal.nD Cert.ReferenceIdeal.τ).loc Cert.ReferenceIdeal.main_arg0)
  wq := m' (((0 : Dev Cert.ReferenceIdeal.nD).tc : Thread Cert.ReferenceIdeal.nD Cert.ReferenceIdeal.τ).loc Cert.ReferenceIdeal.main_arg1)
  k := m' (((0 : Dev Cert.ReferenceIdeal.nD).tc : Thread Cert.ReferenceIdeal.nD Cert.ReferenceIdeal.τ).loc Cert.ReferenceIdeal.main_arg2)
  v := m' (((0 : Dev Cert.ReferenceIdeal.nD).tc : Thread Cert.ReferenceIdeal.nD Cert.ReferenceIdeal.τ).loc Cert.ReferenceIdeal.main_arg3)
  wo := m' (((0 : Dev Cert.ReferenceIdeal.nD).tc : Thread Cert.ReferenceIdeal.nD Cert.ReferenceIdeal.τ).loc Cert.ReferenceIdeal.main_arg4)

/-- Block `c` of the heads of an array, at an element. -/
theorem block_heads (w : Cert.ReferenceIdeal.S1x4096x32x128.Idx → EReal) (c : Fin 4) (j : Fin 4096) (h : Fin 8) (d : Fin 128) (h' : Fin 32)
    (hh : h'.val = 8 * c.val + h.val) :
    (Layout.block ⟨4, ![1, 4096, 8, 128]⟩ ⟨4, ![1, 4096, 32, 128]⟩ 2 4 c w) (ix4 0 j h d) = w (ix4 0 j h' d) := by
  rw [Layout.block_apply]
  refine congrArg w (funext fun b => Fin.ext ?_)
  rw [Layout.Tiles.idx_val]
  match b with
  | ⟨0, _⟩ => rfl
  | ⟨1, _⟩ => rfl
  | ⟨2, _⟩ => show c.val * 8 + h.val = h'.val; omega
  | ⟨3, _⟩ => rfl

/-- From memories that hold the same arguments, those that the scores are made of real, the kernel over the extended
    reals ends with the reference's result on every device. -/
theorem kernel_eq_reference : Cert.algebraic_KernelIdeal_ReferenceIdeal_pre_finite_KernelIdeal := by
  intro m g m' g' hpre hargs
  have hm : Cert.ValueProof.Holds m (argsOf m') :=
    { x := fun c i k => congrFun (hargs c).1 _
      wq := fun c k n => congrFun (hargs c).2.1 _
      k := fun c j h d h' hh => (congrFun (hargs c).2.2.1 _).trans (block_heads _ c j h d h' hh)
      v := fun c j h d h' hh => (congrFun (hargs c).2.2.2.1 _).trans (block_heads _ c j h d h' hh)
      wo := fun c k n => congrFun (hargs c).2.2.2.2 _ }
  have hp := fun c => Cert.ValueProof.real_of_pre _ _ _ _ _ (hpre c)
  have hr : (argsOf m').Real :=
    { x := fun i k => hm.x 0 i k ▸ (hp 0).1 _
      wq := fun k n => hm.wq 0 k n ▸ (hp 0).2.1 _
      k := fun j h d => by
        have h1 : h.val < 32 := h.isLt
        rw [← hm.k (⟨h.val / 8, by omega⟩ : Fin 4) j ⟨h.val % 8, by omega⟩ d h (by show h.val = 8 * (h.val / 8) + h.val % 8; omega)]
        exact (hp _).2.2 _ }
  refine ⟨Cert.ReferenceIdeal.Value.res_main_v39 m' 0, ?_, ?_⟩
  · refine (θ_run _ _ _).mono (fun r h c => ⟨(h.1 c).1.trans ?_, (h.1 c).2⟩) (Cert.KernelIdealProof.run_main m g)
    exact (Cert.ValueProof.out_eq_ref hm hr c).trans (Cert.ValueProof.res_eq m' 0).symm
  · exact (θ_run _ _ _).mono (fun r h => h 0) (Cert.ReferenceIdeal.Value.run m' g')

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  kernel_quiescent, kernelIdeal_quiescent, fun m g _ => kernelIdeal_quiescent m g trivial, referenceIdeal_quiescent,
  fun m g _ => referenceIdeal_quiescent m g trivial, trivial, kernel_eq_reference⟩

end Cert.Proof

end
